-- ==== Defs.lean ====
def Pre_Kernel [hPre_partition : Cert.Pre_partition.Facts] (m : (ℓ : Loc Cert.Kernel.nD Cert.Kernel.τ Cert.Kernel.sig) → Buf (Elt Bits) ℓ) : Prop :=
  ∀ c : Dev Cert.Kernel.nD,
    (Cert.Pre_partition.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_partition : Cert.Pre_partition.Facts] (m : (ℓ : Loc Cert.KernelIdeal.nD Cert.KernelIdeal.τ Cert.KernelIdeal.sig) → Buf (Elt Ideal) ℓ) : Prop :=
  ∀ c : Dev Cert.KernelIdeal.nD,
    (Cert.Pre_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partition [hPre_partition : Cert.Pre_partition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_partition : Cert.Pre_partition.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_partition : Cert.Pre_partition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_partition [hReferenceIdeal : Cert.ReferenceIdeal.Facts] [hPre_partition : Cert.Pre_partition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_partition : Cert.Pre_partition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_partition : Cert.Pre_partition.Facts),
    quiescent_Kernel (hKernel := hKernel) (hPre_partition := hPre_partition)
    ∧ quiescent_KernelIdeal (hKernelIdeal := hKernelIdeal) (hPre_partition := hPre_partition)
    ∧ quiescent_ReferenceIdeal (hReferenceIdeal := hReferenceIdeal)
    ∧ quiescent_ReferenceIdeal_pre_partition (hReferenceIdeal := hReferenceIdeal) (hPre_partition := hPre_partition)
    ∧ preserves_Kernel_KernelIdeal
    ∧ algebraic_KernelIdeal_ReferenceIdeal (hKernelIdeal := hKernelIdeal) (hReferenceIdeal := hReferenceIdeal) (hPre_partition := hPre_partition)
-- ==== Pre_partition.lean ====
abbrev S65536x2816 : Shape := ⟨2, ![65536, 2816]⟩
abbrev S65536x1 : Shape := ⟨2, ![65536, 1]⟩
abbrev S4 : Shape := ⟨1, ![4]⟩
abbrev S4x2816x5632 : Shape := ⟨3, ![4, 2816, 5632]⟩
abbrev S4x5632 : Shape := ⟨2, ![4, 5632]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S65536x2816 .fp8e4m3) (main_arg1 : FVec F S65536x1 .f32) (main_arg2 : IVec S4 32) (main_arg3 : FVec F S4x2816x5632 .fp8e4m3) (main_arg4 : FVec F S4x5632 .f32) : IVec S_ 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 65536#32
  let main_v3 : IVec S4 32 := broadcastInDim S4 ![] bcast_S_S4 main_c_1
  let main_v4 : IVec S4 1 := cmpi .sle main_arg2 main_v3
  let main_c_2 : IVec S_ 1 := constantI S_ 1 1#1
  let main_v5 : IVec S_ 1 := (fun x v => Host.reduce IntOp.andi x v reducesTo_S4_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S4_S_d0 h_S_) main_arg2 main_c_3
  let main_c_4 : IVec S_ 32 := constantI S_ 32 65536#32
  let main_v8 : IVec S_ 1 := cmpi .eq main_v7 main_c_4
  let main_v9 : IVec S_ 1 := andi main_v6 main_v8
  main_v9
-- ==== Kernel.lean ====
abbrev S65536x2816 : Shape := ⟨2, ![65536, 2816]⟩
abbrev S65536x1 : Shape := ⟨2, ![65536, 1]⟩
abbrev S4 : Shape := ⟨1, ![4]⟩
abbrev S4x2816x5632 : Shape := ⟨3, ![4, 2816, 5632]⟩
abbrev S4x5632 : Shape := ⟨2, ![4, 5632]⟩
abbrev S_ : Shape := ⟨0, ![]⟩
abbrev S131 : Shape := ⟨1, ![131]⟩
abbrev S1 : Shape := ⟨1, ![1]⟩
abbrev S131x1 : Shape := ⟨2, ![131, 1]⟩
abbrev S1x4 : Shape := ⟨2, ![1, 4]⟩
abbrev S131x4 : Shape := ⟨2, ![131, 4]⟩
abbrev S4x1x5632 : Shape := ⟨3, ![4, 1, 5632]⟩
abbrev S65536x5632 : Shape := ⟨2, ![65536, 5632]⟩
abbrev S512x2816 : Shape := ⟨2, ![512, 2816]⟩
abbrev S512x1 : Shape := ⟨2, ![512, 1]⟩
abbrev S1x2816x5632 : Shape := ⟨3, ![1, 2816, 5632]⟩
abbrev S1x1x5632 : Shape := ⟨3, ![1, 1, 5632]⟩
abbrev S512x5632 : Shape := ⟨2, ![512, 5632]⟩
abbrev S1x2816x512 : Shape := ⟨3, ![1, 2816, 512]⟩
abbrev S2816x512 : Shape := ⟨2, ![2816, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 96
  | .vmem => 10
  | .smem => 5
  | _ => 0

abbrev bufTy : (tb : Table) → Fin (tcTables nBuf tb) → BufTy
  | .hbm, ⟨0, _⟩ => ⟨S65536x2816, .fp8e4m3⟩
  | .hbm, ⟨1, _⟩ => ⟨S65536x1, .f32⟩
  | .hbm, ⟨2, _⟩ => ⟨S4, .i32⟩
  | .hbm, ⟨3, _⟩ => ⟨S4x2816x5632, .fp8e4m3⟩
  | .hbm, ⟨4, _⟩ => ⟨S4x5632, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S4, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i1⟩
  | .hbm, ⟨20, _⟩ => ⟨S4, .i1⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i1⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S_, .i32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S4, .i32⟩
  | .hbm, ⟨36, _⟩ => ⟨S_, .i32⟩
  | .hbm, ⟨37, _⟩ => ⟨S4, .i32⟩
  | .hbm, ⟨38, _⟩ => ⟨S4, .i1⟩
  | .hbm, ⟨39, _⟩ => ⟨S4, .i32⟩
  | .hbm, ⟨40, _⟩ => ⟨S4, .i32⟩
  | .hbm, ⟨41, _⟩ => ⟨S_, .i32⟩
  | .hbm, ⟨42, _⟩ => ⟨S4, .i32⟩
  | .hbm, ⟨43, _⟩ => ⟨S4, .i1⟩
  | .hbm, ⟨44, _⟩ => ⟨S4, .i1⟩
  | .hbm, ⟨45, _⟩ => ⟨S_, .i32⟩
  | .hbm, ⟨46, _⟩ => ⟨S4, .i32⟩
  | .hbm, ⟨47, _⟩ => ⟨S4, .i32⟩
  | .hbm, ⟨48, _⟩ => ⟨S4, .i32⟩
  | .hbm, ⟨49, _⟩ => ⟨S4, .i32⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S_, .i32⟩
  | .hbm, ⟨54, _⟩ => ⟨S_, .i32⟩
  | .hbm, ⟨55, _⟩ => ⟨S4, .i32⟩
  | .hbm, ⟨56, _⟩ => ⟨S4, .i32⟩
  | .hbm, ⟨57, _⟩ => ⟨S_, .i32⟩
  | .hbm, ⟨58, _⟩ => ⟨S_, .i32⟩
  | .hbm, ⟨59, _⟩ => ⟨S4, .i32⟩
  | .hbm, ⟨60, _⟩ => ⟨S4, .i32⟩
  | .hbm, ⟨61, _⟩ => ⟨S131, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S131, .i32⟩
  | .hbm, ⟨67, _⟩ => ⟨S131, .i32⟩
  | .hbm, ⟨68, _⟩ => ⟨S131x1, .i32⟩
  | .hbm, ⟨69, _⟩ => ⟨S1x4, .i32⟩
  | .hbm, ⟨70, _⟩ => ⟨S131x4, .i32⟩
  | .hbm, ⟨71, _⟩ => ⟨S131x4, .i32⟩
  | .hbm, ⟨72, _⟩ => ⟨S131x4, .i1⟩
  | .hbm, ⟨73, _⟩ => ⟨S131x4, .i32⟩
  | .hbm, ⟨74, _⟩ => ⟨S_, .i32⟩
  | .hbm, ⟨75, _⟩ => ⟨S_, .i32⟩
  | .hbm, ⟨76, _⟩ => ⟨S131, .i32⟩
  | .hbm, ⟨77, _⟩ => ⟨S131, .i1⟩
  | .hbm, ⟨78, _⟩ => ⟨S_, .i32⟩
  | .hbm, ⟨79, _⟩ => ⟨S131, .i32⟩
  | .hbm, ⟨80, _⟩ => ⟨S131, .i32⟩
  | .hbm, ⟨81, _⟩ => ⟨S131, .i32⟩
  | .hbm, ⟨82, _⟩ => ⟨S131x1, .i32⟩
  | .hbm, ⟨83, _⟩ => ⟨S131, .i32⟩
  | .hbm, ⟨84, _⟩ => ⟨S131, .i32⟩
  | .hbm, ⟨85, _⟩ => ⟨S_, .i32⟩
  | .hbm, ⟨86, _⟩ => ⟨S131, .i32⟩
  | .hbm, ⟨87, _⟩ => ⟨S131, .i1⟩
  | .hbm, ⟨88, _⟩ => ⟨S_, .i32⟩
  | .hbm, ⟨89, _⟩ => ⟨S131, .i32⟩
  | .hbm, ⟨90, _⟩ => ⟨S131, .i32⟩
  | .hbm, ⟨91, _⟩ => ⟨S131, .i32⟩
  | .hbm, ⟨92, _⟩ => ⟨S131x1, .i32⟩
  | .hbm, ⟨93, _⟩ => ⟨S131, .i32⟩
  | .hbm, ⟨94, _⟩ => ⟨S4x1x5632, .f32⟩
  | .hbm, ⟨95, _⟩ => ⟨S65536x5632, .bf16⟩
  | .local _ .vmem, ⟨0, _⟩ => ⟨S512x2816, .fp8e4m3⟩
  | .local _ .vmem, ⟨1, _⟩ => ⟨S512x2816, .fp8e4m3⟩
  | .local _ .vmem, ⟨2, _⟩ => ⟨S512x1, .f32⟩
  | .local _ .vmem, ⟨3, _⟩ => ⟨S512x1, .f32⟩
  | .local _ .vmem, ⟨4, _⟩ => ⟨S1x2816x5632, .fp8e4m3⟩
  | .local _ .vmem, ⟨5, _⟩ => ⟨S1x2816x5632, .fp8e4m3⟩
  | .local _ .vmem, ⟨6, _⟩ => ⟨S1x1x5632, .f32⟩
  | .local _ .vmem, ⟨7, _⟩ => ⟨S1x1x5632, .f32⟩
  | .local _ .vmem, ⟨8, _⟩ => ⟨S512x5632, .bf16⟩
  | .local _ .vmem, ⟨9, _⟩ => ⟨S512x5632, .bf16⟩
  | .local _ .smem, ⟨0, _⟩ => ⟨S131, .i32⟩
  | .local _ .smem, ⟨1, _⟩ => ⟨S131, .i32⟩
  | .local _ .smem, ⟨2, _⟩ => ⟨S4, .i32⟩
  | .local _ .smem, ⟨3, _⟩ => ⟨S4, .i32⟩
  | .local _ .smem, ⟨4, _⟩ => ⟨S1, .i32⟩
  | _, _ => ⟨S65536x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_c_2 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v7 : Ref sig .tc := ⟨.hbm, 48, rfl⟩
abbrev main_v8 : Ref sig .tc := ⟨.hbm, 49, rfl⟩
abbrev main_c_3 : Ref sig .tc := ⟨.hbm, 50, rfl⟩
abbrev main_v9 : Ref sig .tc := ⟨.hbm, 51, rfl⟩
abbrev main_v10 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_call4_call0_c : Ref sig .tc := ⟨.hbm, 57, rfl⟩
abbrev main_call4_call0_v0 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_c_5 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_c_6 : Ref sig .tc := ⟨.hbm, 74, rfl⟩
abbrev main_c_7 : Ref sig .tc := ⟨.hbm, 75, rfl⟩
abbrev main_v27 : Ref sig .tc := ⟨.hbm, 76, rfl⟩
abbrev main_v28 : Ref sig .tc := ⟨.hbm, 77, rfl⟩
abbrev main_c_8 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_9 : Ref sig .tc := ⟨.hbm, 85, rfl⟩
abbrev main_v35 : Ref sig .tc := ⟨.hbm, 86, rfl⟩
abbrev main_v36 : Ref sig .tc := ⟨.hbm, 87, rfl⟩
abbrev main_c_10 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v44 : Ref sig .tc := ⟨.hbm, 94, rfl⟩
abbrev main_v45 : Ref sig .tc := ⟨.hbm, 95, rfl⟩
abbrev main_v42 : Ref sig .tc := ⟨.smem, 0, rfl⟩
abbrev main_v26 : Ref sig .tc := ⟨.smem, 1, rfl⟩
abbrev main_v1 : Ref sig .tc := ⟨.smem, 2, rfl⟩
abbrev main_v0 : Ref sig .tc := ⟨.smem, 3, rfl⟩
abbrev main_v43 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![131], ![false]⟩

abbrev pre0 : Pipeline.Prefetch sig := ⟨5, ![main_v42.idx, main_v26.idx, main_v1.idx, main_v0.idx, main_v43.idx], fun | 0 => main_v42.names | 1 => main_v26.names | 2 => main_v1.names | 3 => main_v0.names | 4 => main_v43.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_off3 (v3 : BitVec 32) : Fin 1 → Nat :=
  let v24 : Index := Scalar.indexCast v3
  ![v24.toNat]
def k0_cond2 (i : grid0.Coords) (v1 : BitVec 32) (v4 : BitVec 32) (v10 : BitVec 32) : BitVec 1 :=
  let arg0 : BitVec 32 := BitVec.ofNat 32 (i 0).val
  let v5 : BitVec 1 := Scalar.cmpi .slt arg0 v4
  let c0_i32 : BitVec 32 := 0#32
  let v6 : BitVec 1 := Scalar.cmpi .sgt arg0 c0_i32
  let v11 : BitVec 1 := Scalar.cmpi .eq v10 v1
  let v12 : BitVec 1 := Scalar.andi v6 v11
  let v17 : BitVec 1 := Scalar.andi v5 v12
  let v18 : BitVec 32 := Scalar.extui v17
  let c0_i32_2 : BitVec 32 := 0#32
  let v19 : BitVec 1 := Scalar.cmpi .ne v18 c0_i32_2
  v19

def k0_chk1 (i : grid0.Coords) (v1 : BitVec 32) (v3 : BitVec 32) (v4 : BitVec 32) (v10 : BitVec 32) : Prop :=
  (∀ (k0_h2 : k0_cond2 i v1 v4 v10 = 1#1), ∀ a, (k0_off3 v3) a + S1.size a ≤ S4.size a)
theorem k0_off3_inb : ∀ (i : grid0.Coords) (v1 : BitVec 32) (v3 : BitVec 32) (v4 : BitVec 32) (v10 : BitVec 32) (k0_hw1 : k0_chk1 i v1 v3 v4 v10), ∀ (k0_h2 : k0_cond2 i v1 v4 v10 = 1#1), ∀ a, (k0_off3 v3) a + S1.size a ≤ S4.size a := fun i v1 v3 v4 v10 k0_hw1 k0_h2 => k0_hw1 k0_h2

def k0_cond1 (i : grid0.Coords) (v1 : BitVec 32) (v4 : BitVec 32) (v10 : BitVec 32) : BitVec 1 :=
  let arg0 : BitVec 32 := BitVec.ofNat 32 (i 0).val
  let v5 : BitVec 1 := Scalar.cmpi .slt arg0 v4
  let c0_i32 : BitVec 32 := 0#32
  let v6 : BitVec 1 := Scalar.cmpi .sgt arg0 c0_i32
  let v11 : BitVec 1 := Scalar.cmpi .eq v10 v1
  let v12 : BitVec 1 := Scalar.andi v6 v11
  let v_true : BitVec 1 := 1#1
  let v13 : BitVec 1 := Scalar.xori v12 v_true
  let v14 : BitVec 1 := Scalar.andi v5 v13
  let v15 : BitVec 32 := Scalar.extui v14
  let c0_i32_1 : BitVec 32 := 0#32
  let v16 : BitVec 1 := Scalar.cmpi .ne v15 c0_i32_1
  v16

def cc0_transform_0 (k0_off1_inb : ∀ i : grid0.Coords, ∀ a, (k0_off1 i) a + S1.size a ≤ S131.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S131) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S131.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S131) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S131.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S131) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S131.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S131) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S131.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S131) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x5632 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x2816 : Shape := ⟨2, ![65536, 2816]⟩
abbrev S65536x1 : Shape := ⟨2, ![65536, 1]⟩
abbrev S4 : Shape := ⟨1, ![4]⟩
abbrev S4x2816x5632 : Shape := ⟨3, ![4, 2816, 5632]⟩
abbrev S4x5632 : Shape := ⟨2, ![4, 5632]⟩
abbrev S65536x5632 : Shape := ⟨2, ![65536, 5632]⟩
abbrev S1 : Shape := ⟨1, ![1]⟩
abbrev S1x2816x5632 : Shape := ⟨3, ![1, 2816, 5632]⟩
abbrev S2816x5632 : Shape := ⟨2, ![2816, 5632]⟩
abbrev S1x5632 : Shape := ⟨2, ![1, 5632]⟩

abbrev nBuf : Space → Nat
  | .hbm => 6
  | .vmem => 5
  | .smem => 1
  | _ => 0

abbrev bufTy : (tb : Table) → Fin (tcTables nBuf tb) → BufTy
  | .hbm, ⟨0, _⟩ => ⟨S65536x2816, .fp8e4m3⟩
  | .hbm, ⟨1, _⟩ => ⟨S65536x1, .f32⟩
  | .hbm, ⟨2, _⟩ => ⟨S4, .i32⟩
  | .hbm, ⟨3, _⟩ => ⟨S4x2816x5632, .fp8e4m3⟩
  | .hbm, ⟨4, _⟩ => ⟨S4x5632, .f32⟩
  | .hbm, ⟨5, _⟩ => ⟨S65536x5632, .bf16⟩
  | .local _ .vmem, ⟨0, _⟩ => ⟨S65536x2816, .fp8e4m3⟩
  | .local _ .vmem, ⟨1, _⟩ => ⟨S65536x1, .f32⟩
  | .local _ .vmem, ⟨2, _⟩ => ⟨S4x2816x5632, .fp8e4m3⟩
  | .local _ .vmem, ⟨3, _⟩ => ⟨S4x5632, .f32⟩
  | .local _ .vmem, ⟨4, _⟩ => ⟨S65536x5632, .bf16⟩
  | .local _ .smem, ⟨0, _⟩ => ⟨S4, .i32⟩
  | _, _ => ⟨S65536x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Plan.lean ====
module

public import Mathlib.Tactic.IntervalCases
public import Mathlib.Tactic.Ring

/-! # The work list, over the natural numbers

The kernel's steps walk the row tiles expert by expert. Given the group sizes `g`, expert `e`'s rows are
`lo e ≤ row < hi e`; it touches `nt e` tiles, from `ft e` on; `tile t` and `ex t` are the tile and the expert of step `t`.
`next` says how two consecutive steps are related, and the rest of the file what follows for every tile. -/

@[expose] public section

namespace WorkList

/-- Where expert `e`'s rows end. -/
def hi (g : ℕ → ℕ) : ℕ → ℕ
  | 0 => g 0
  | e + 1 => hi g e + g (e + 1)

/-- Where they start. -/
def lo (g : ℕ → ℕ) (e : ℕ) : ℕ := hi g e - g e

/-- The first tile they touch. -/
def ft (g : ℕ → ℕ) (e : ℕ) : ℕ := lo g e / 512

/-- How many tiles they touch. -/
def nt (g : ℕ → ℕ) (e : ℕ) : ℕ := if 0 < g e then (hi g e - 1) / 512 - ft g e + 1 else 0

/-- The number of steps up to expert `e`'s last. -/
def se (g : ℕ → ℕ) : ℕ → ℕ
  | 0 => nt g 0
  | e + 1 => se g e + nt g (e + 1)

/-- The steps' number. -/
def n (g : ℕ → ℕ) : ℕ := se g 3

/-- A step past the last repeats it. -/
def step (g : ℕ → ℕ) (t : ℕ) : ℕ := min t (n g - 1)

/-- The expert of step `t`: how many experts' steps are over. -/
def ex (g : ℕ → ℕ) (t : ℕ) : ℕ :=
  (if se g 0 ≤ step g t then 1 else 0) + (if se g 1 ≤ step g t then 1 else 0) + (if se g 2 ≤ step g t then 1 else 0)
    + (if se g 3 ≤ step g t then 1 else 0)

/-- The tile of step `t`. -/
def tile (g : ℕ → ℕ) (t : ℕ) : ℕ := ft g (ex g t) + step g t - (se g (ex g t) - nt g (ex g t))

variable {g : ℕ → ℕ}

theorem hi_eq (e : ℕ) : hi g e = lo g e + g e := by
  cases e with
  | zero => simp [lo, hi]
  | succ e => simp [lo, hi]

theorem lo_zero : lo g 0 = 0 := by simp [lo, hi]

theorem lo_succ (e : ℕ) : lo g (e + 1) = hi g e := by simp [lo, hi]

/-- An expert's tiles: none, or those its rows touch. -/
theorem nt_cases (e : ℕ) : (g e = 0 ∧ nt g e = 0 ∧ hi g e = lo g e)
    ∨ (lo g e < hi g e ∧ 1 ≤ nt g e ∧ 512 * ft g e ≤ lo g e ∧ lo g e < 512 * ft g e + 512
        ∧ 512 * (ft g e + nt g e) < hi g e + 512 ∧ hi g e ≤ 512 * (ft g e + nt g e)) := by
  have h := hi_eq (g := g) e
  unfold nt ft
  by_cases hg : 0 < g e
  · right; rw [if_pos hg]; refine ⟨by omega, by omega, by omega, by omega, by omega, by omega⟩
  · left; rw [if_neg hg]; omega

section
variable (hsum : hi g 3 = 65536)
include hsum

/-- The step's expert, and its place among the expert's steps. -/
theorem ex_spec (t : ℕ) : ex g t < 4 ∧ se g (ex g t) - nt g (ex g t) ≤ step g t ∧ step g t < se g (ex g t)
    ∧ nt g (ex g t) ≤ se g (ex g t) ∧ (ex g t = 0 ∨ se g (ex g t - 1) = se g (ex g t) - nt g (ex g t)) := by
  have c0 := nt_cases (g := g) 0; have c1 := nt_cases (g := g) 1; have c2 := nt_cases (g := g) 2; have c3 := nt_cases (g := g) 3
  have l0 := lo_zero (g := g); have l1 := lo_succ (g := g) 0; have l2 := lo_succ (g := g) 1; have l3 := lo_succ (g := g) 2
  have e0 : se g 0 = nt g 0 := rfl
  have e1 : se g 1 = se g 0 + nt g 1 := rfl
  have e2 : se g 2 = se g 1 + nt g 2 := rfl
  have e3 : se g 3 = se g 2 + nt g 3 := rfl
  have hn : n g = se g 3 := rfl
  have hst : step g t = min t (n g - 1) := rfl
  simp only [Nat.zero_add, Nat.reduceAdd] at l1 l2 l3
  have hlt : step g t < se g 3 := by omega
  unfold ex
  by_cases h0 : se g 0 ≤ step g t
  · by_cases h1 : se g 1 ≤ step g t
    · by_cases h2 : se g 2 ≤ step g t
      · simp only [if_pos h0, if_pos h1, if_pos h2, if_neg (Nat.not_le.2 hlt), Nat.reduceAdd, Nat.reduceSub]; omega
      · have h3 : ¬ se g 3 ≤ step g t := by omega
        simp only [if_pos h0, if_pos h1, if_neg h2, if_neg h3, Nat.reduceAdd, Nat.reduceSub]; omega
    · have h2 : ¬ se g 2 ≤ step g t := by omega
      have h3 : ¬ se g 3 ≤ step g t := by omega
      simp only [if_pos h0, if_neg h1, if_neg h2, if_neg h3, Nat.reduceAdd, Nat.reduceSub]; omega
  · have h1 : ¬ se g 1 ≤ step g t := by omega
    have h2 : ¬ se g 2 ≤ step g t := by omega
    have h3 : ¬ se g 3 ≤ step g t := by omega
    simp only [if_neg h0, if_neg h1, if_neg h2, if_neg h3, Nat.reduceAdd]
    refine ⟨by omega, by omega, by omega, by omega, by simp⟩

theorem n_pos : 1 ≤ n g := by
  have c0 := nt_cases (g := g) 0; have c1 := nt_cases (g := g) 1; have c2 := nt_cases (g := g) 2; have c3 := nt_cases (g := g) 3
  have l0 := lo_zero (g := g); have l1 := lo_succ (g := g) 0; have l2 := lo_succ (g := g) 1; have l3 := lo_succ (g := g) 2
  have e0 : n g = nt g 0 + nt g 1 + nt g 2 + nt g 3 := rfl
  simp only [Nat.zero_add, Nat.reduceAdd] at l1 l2 l3
  omega

theorem n_le : n g ≤ 131 := by
  have c0 := nt_cases (g := g) 0; have c1 := nt_cases (g := g) 1; have c2 := nt_cases (g := g) 2; have c3 := nt_cases (g := g) 3
  have l0 := lo_zero (g := g); have l1 := lo_succ (g := g) 0; have l2 := lo_succ (g := g) 1; have l3 := lo_succ (g := g) 2
  have e0 : n g = nt g 0 + nt g 1 + nt g 2 + nt g 3 := rfl
  simp only [Nat.zero_add, Nat.reduceAdd] at l1 l2 l3
  omega

theorem hi_le (e : ℕ) (he : e < 4) : hi g e ≤ 65536 := by
  have h0 : hi g 1 = hi g 0 + g 1 := rfl
  have h1 : hi g 2 = hi g 1 + g 2 := rfl
  have h2 : hi g 3 = hi g 2 + g 3 := rfl
  interval_cases e <;> omega

theorem ex_lt (t : ℕ) : ex g t < 4 := (ex_spec hsum t).1

/-- A step's tile meets its expert's rows. -/
theorem tile_meets (t : ℕ) : 512 * tile g t < hi g (ex g t) ∧ lo g (ex g t) < 512 * (tile g t + 1)
    ∧ (tile g t = ft g (ex g t) + (step g t - (se g (ex g t) - nt g (ex g t)))) := by
  obtain ⟨h1, h2, h3, h4, -⟩ := ex_spec hsum t
  have c := nt_cases (g := g) (ex g t)
  have ht : tile g t = ft g (ex g t) + step g t - (se g (ex g t) - nt g (ex g t)) := rfl
  omega

theorem tile_lt (t : ℕ) : tile g t < 128 := by
  have h := (tile_meets hsum t).1
  have h2 := hi_le hsum _ (ex_lt hsum t)
  omega

theorem zero : lo g (ex g 0) = 0 ∧ tile g 0 = 0 := by
  obtain ⟨h1, h2, h3, h4, h5⟩ := ex_spec hsum 0
  obtain ⟨m1, m2, m3⟩ := tile_meets hsum 0
  have hs : step g 0 = 0 := by simp [step]
  have c0 := nt_cases (g := g) 0; have c1 := nt_cases (g := g) 1; have c2 := nt_cases (g := g) 2; have c3 := nt_cases (g := g) 3
  have l0 := lo_zero (g := g); have l1 := lo_succ (g := g) 0; have l2 := lo_succ (g := g) 1; have l3 := lo_succ (g := g) 2
  have e0 : se g 0 = nt g 0 := rfl
  have e1 : se g 1 = se g 0 + nt g 1 := rfl
  have e2 : se g 2 = se g 1 + nt g 2 := rfl
  have e3 : se g 3 = se g 2 + nt g 3 := rfl
  simp only [Nat.zero_add, Nat.reduceAdd] at l1 l2 l3
  have hft : ft g (ex g 0) = lo g (ex g 0) / 512 := rfl
  have hl : lo g (ex g 0) = 0 := by
    generalize ex g 0 = e at *
    interval_cases e <;> simp only [Nat.reduceSub] at * <;> omega
  refine ⟨hl, ?_⟩
  omega

/-- Two consecutive steps: the next tile of the same expert, or the first tile of the next expert that has rows. -/
theorem next (t : ℕ) (ht : t + 1 < n g) :
    (ex g (t + 1) = ex g t ∧ tile g (t + 1) = tile g t + 1)
    ∨ (lo g (ex g (t + 1)) = hi g (ex g t) ∧ hi g (ex g t) ≤ 512 * (tile g t + 1) ∧ tile g (t + 1) = hi g (ex g t) / 512) := by
  obtain ⟨h1, h2, h3, h4, h5⟩ := ex_spec hsum t
  obtain ⟨i1, i2, i3, i4, i5⟩ := ex_spec hsum (t + 1)
  obtain ⟨m1, m2, m3⟩ := tile_meets hsum t
  obtain ⟨k1, k2, k3⟩ := tile_meets hsum (t + 1)
  have s0 : step g t = t := by unfold step; omega
  have s1 : step g (t + 1) = t + 1 := by unfold step; omega
  have c0 := nt_cases (g := g) 0; have c1 := nt_cases (g := g) 1; have c2 := nt_cases (g := g) 2; have c3 := nt_cases (g := g) 3
  have l0 := lo_zero (g := g); have l1 := lo_succ (g := g) 0; have l2 := lo_succ (g := g) 1; have l3 := lo_succ (g := g) 2
  have e0 : se g 0 = nt g 0 := rfl
  have e1 : se g 1 = se g 0 + nt g 1 := rfl
  have e2 : se g 2 = se g 1 + nt g 2 := rfl
  have e3 : se g 3 = se g 2 + nt g 3 := rfl
  simp only [Nat.zero_add, Nat.reduceAdd] at l1 l2 l3
  have hft : ft g (ex g (t + 1)) = lo g (ex g (t + 1)) / 512 := rfl
  rw [s0] at h2 h3 m3
  rw [s1] at i2 i3 k3
  generalize tile g t = T at *
  generalize tile g (t + 1) = T' at *
  generalize ex g t = e at *
  generalize ex g (t + 1) = e' at *
  by_cases hee : e' = e
  · left; subst hee; exact ⟨rfl, by omega⟩
  · right
    have hlo : lo g e' = hi g e ∧ se g e = t + 1 ∧ se g e' - nt g e' = t + 1 := by
      interval_cases e <;> interval_cases e' <;> first | exact absurd rfl hee | (simp only [Nat.reduceSub] at *; omega)
    have c := nt_cases (g := g) e
    refine ⟨hlo.1, by omega, ?_⟩
    rw [← hlo.1]; omega

/-- The last step is on the last tile, with the expert of the last rows. -/
theorem last : hi g (ex g (n g - 1)) = 65536 ∧ tile g (n g - 1) = 127 := by
  obtain ⟨h1, h2, h3, h4, h5⟩ := ex_spec hsum (n g - 1)
  obtain ⟨m1, m2, m3⟩ := tile_meets hsum (n g - 1)
  have hn := n_pos hsum
  have s0 : step g (n g - 1) = n g - 1 := by unfold step; omega
  have c0 := nt_cases (g := g) 0; have c1 := nt_cases (g := g) 1; have c2 := nt_cases (g := g) 2; have c3 := nt_cases (g := g) 3
  have l0 := lo_zero (g := g); have l1 := lo_succ (g := g) 0; have l2 := lo_succ (g := g) 1; have l3 := lo_succ (g := g) 2
  have e0 : se g 0 = nt g 0 := rfl
  have e1 : se g 1 = se g 0 + nt g 1 := rfl
  have e2 : se g 2 = se g 1 + nt g 2 := rfl
  have e3 : se g 3 = se g 2 + nt g 3 := rfl
  have hn3 : n g = se g 3 := rfl
  simp only [Nat.zero_add, Nat.reduceAdd] at l1 l2 l3
  rw [s0] at h2 h3 m3
  generalize tile g (n g - 1) = T at *
  generalize ex g (n g - 1) = e at *
  have hse : se g e = n g ∧ hi g e = 65536 := by
    interval_cases e <;> simp only [Nat.reduceSub] at * <;> omega
  have c := nt_cases (g := g) e
  refine ⟨hse.2, by omega⟩

omit hsum in
/-- Steps past the last repeat it. -/
theorem past (t : ℕ) (ht : n g - 1 ≤ t) : ex g t = ex g (n g - 1) ∧ tile g t = tile g (n g - 1) := by
  have h : step g t = step g (n g - 1) := by unfold step; omega
  unfold tile ex; rw [h]; exact ⟨rfl, rfl⟩

/-- A step on another tile than the one before it finds no earlier expert's rows in its tile. -/
theorem first_visit (t : ℕ) (ht : t < n g) (hne : t = 0 ∨ tile g (t - 1) ≠ tile g t) : lo g (ex g t) ≤ 512 * tile g t := by
  rcases Nat.eq_zero_or_pos t with h0 | h0
  · subst h0; rw [(zero hsum).1]; exact Nat.zero_le _
  · obtain ⟨s, rfl⟩ : ∃ s, t = s + 1 := ⟨t - 1, by omega⟩
    have hne' : tile g s ≠ tile g (s + 1) := hne.resolve_left (by omega)
    have m := tile_meets hsum s
    rcases next hsum s ht with ⟨h1, h2⟩ | ⟨h1, h2, h3⟩
    · rw [h1, h2]; omega
    · rw [h1]; omega

/-- A step on the tile of the step before it is the next expert's, whose rows start where the last one's ended. -/
theorem revisit (t : ℕ) (ht : t + 1 < n g) (he : tile g t = tile g (t + 1)) : lo g (ex g (t + 1)) = hi g (ex g t) := by
  rcases next hsum t ht with ⟨h1, h2⟩ | ⟨h1, h2, h3⟩
  · omega
  · exact h1

/-- The last step on a tile has every row of the tile behind its expert's end. -/
theorem last_visit (t : ℕ) (hne : t + 1 = 131 ∨ tile g t ≠ tile g (t + 1)) : 512 * (tile g t + 1) ≤ hi g (ex g t) := by
  have hn := n_pos hsum; have hn' := n_le hsum
  by_cases ht : t + 1 < n g
  · have m := tile_meets hsum (t + 1)
    have hne' : tile g t ≠ tile g (t + 1) := by rcases hne with h | h; · omega
                                                · exact h
    rcases next hsum t ht with ⟨h1, h2⟩ | ⟨h1, h2, h3⟩
    · rw [h1] at m; rw [h2] at m; omega
    · have m' := tile_meets hsum t; omega
  · obtain ⟨h1, h2⟩ := past (g := g) t (by omega)
    obtain ⟨h3, h4⟩ := last hsum
    rw [h1, h2, h3, h4]

/-- Every tile has a last step. -/
theorem exists_last (T : ℕ) (hT : T < 128) : ∃ t, t < 131 ∧ tile g t = T ∧ (t + 1 = 131 ∨ tile g t ≠ tile g (t + 1)) := by
  have hn := n_pos hsum; have hn' := n_le hsum
  have h130 : tile g 130 = 127 := by rw [(past (g := g) 130 (by omega)).2, (last hsum).2]
  have mono1 : ∀ t, tile g (t + 1) ≤ tile g t + 1 ∧ tile g t ≤ tile g (t + 1) := by
    intro t
    by_cases ht : t + 1 < n g
    · have m := tile_meets hsum t
      rcases next hsum t ht with ⟨h1, h2⟩ | ⟨h1, h2, h3⟩ <;> omega
    · rw [(past (g := g) t (by omega)).2, (past (g := g) (t + 1) (by omega)).2]; omega
  -- the last step whose tile is at most `T`
  have hex : ∃ t, t ≤ 130 ∧ tile g t ≤ T ∧ (t = 130 ∨ T < tile g (t + 1)) := by
    by_contra hc
    have : ∀ t, t ≤ 130 → tile g t ≤ T := by
      intro t
      induction t with
      | zero => intro _; rw [(zero hsum).2]; exact Nat.zero_le _
      | succ t ih =>
        intro ht
        by_contra h
        exact hc ⟨t, by omega, ih (by omega), Or.inr (by omega)⟩
    exact hc ⟨130, le_refl _, this 130 (le_refl _), Or.inl rfl⟩
  obtain ⟨t, h1, h2, h3⟩ := hex
  have m := mono1 t
  refine ⟨t, by omega, ?_, ?_⟩
  · rcases h3 with h | h
    · subst h; omega
    · omega
  · rcases h3 with h | h
    · left; omega
    · right; omega

end

end WorkList
-- ==== Proof.Words.lean ====
module

public import proofs.«01_k».proof.Proof.Gen.KernelIdeal
public import proofs.«01_k».proof.Proof.Gen.Pre_partition
public import proofs.«01_k».proof.Proof.Plan
public import Idealize.ShloMosaic.Lib.Routing.Words
public import Idealize.ShloMosaic.Lib.Routing.OpsSet
public import Idealize.ShloMosaic.Lib.ReduceAll

/-! # The work list, as the host computes it

The five tables are 32-bit words computed from the group sizes. When the group sizes partition the rows, each word is the
number that the work list over the naturals (`WorkList`) gives. -/

@[expose] public section

noncomputable section

namespace Cert.KernelIdeal.Hand

open Cert.KernelIdeal Cert.KernelIdeal.Gen
open Idealize.ShloMosaic Idealize.ShloMosaic.ValueIdx
open Idealize.ShloMosaic.Routing (shape0 shape1 shape2 pyDiv pyDiv_ap bc0 bcCol bcRows bcCols cumsum1 reduce_count reduce_sum
  gather_take1 slice1 iota1_ap subi_ap addi_ap)

/-- The ends of the groups: the group sizes' running sum. -/
def wEnds (gs : IVec S4 32) : IVec S4 32 :=
  Host.reduceWindow IntOp.addi ![4] ![1] ![3] ![0] gs (broadcastInDim S_ ![] bcast_S_S_ (constantI S_ 32 0#32)) reduceWindows_S4_S4_w4s1p3_0 h_S_

/-- The starts of the groups. -/
def wStarts (gs : IVec S4 32) : IVec S4 32 := subi (wEnds gs) gs

/-- A vector of words divided by 512, rounded down. -/
def wDiv (x : IVec S4 32) : IVec S4 32 := pyDiv bcast_S_S4 x (constantI S_ 32 512#32)

/-- The first tile of each group. -/
def wFirst (gs : IVec S4 32) : IVec S4 32 := wDiv (wStarts gs)

/-- The number of tiles of each group. -/
def wTiles (gs : IVec S4 32) : IVec S4 32 :=
  select (cmpi .sgt gs (broadcastInDim S4 ![] bcast_S_S4 (constantI S_ 32 0#32)))
    (addi (subi (wDiv (subi (wEnds gs) (broadcastInDim S4 ![] bcast_S_S4 (constantI S_ 32 1#32)))) (wFirst gs))
      (broadcastInDim S4 ![] bcast_S_S4 (constantI S_ 32 1#32)))
    (broadcastInDim S4 ![] bcast_S_S4 (constantI S_ 32 0#32))

/-- The number of steps up to each group's last. -/
def wSteps (gs : IVec S4 32) : IVec S4 32 :=
  Host.reduceWindow IntOp.addi ![4] ![1] ![3] ![0] (wTiles gs) (broadcastInDim S_ ![] bcast_S_S_ (constantI S_ 32 0#32)) reduceWindows_S4_S4_w4s1p3_0 h_S_

/-- The number of steps. -/
def wN (gs : IVec S4 32) : IVec S1 32 := extractStridedSlice S1 ![3] (wSteps gs) slices_S4_S1_3

/-- The step numbers, held at the last one. -/
def wStep (gs : IVec S4 32) : IVec S131 32 :=
  minsi (iotaInDim S131 32 0) (broadcastInDim S131 ![] bcast_S_S131 (subi (shapeCast S_ (wN gs) shapeCasts_S1_S_) (constantI S_ 32 1#32)))

/-- The expert of each step. -/
def wEx (gs : IVec S4 32) : IVec S131 32 :=
  Host.reduce IntOp.addi (extui 32 (cmpi .sge
      (broadcastInDim S131x4 ![0, 1] bcast_S131x1_S131x4_0_1 (broadcastInDim S131x1 ![0] bcast_S131_S131x1_0 (wStep gs)))
      (broadcastInDim S131x4 ![0, 1] bcast_S1x4_S131x4_0_1 (broadcastInDim S1x4 ![1] bcast_S4_S1x4_1 (wSteps gs)))) natLt_1_32)
    (constantI S_ 32 0#32) reducesTo_S131x4_S131_d1 h_S_

/-- The expert of each step as a column of positions. -/
def wIdx (gs : IVec S4 32) : IVec S131x1 32 :=
  broadcastInDim S131x1 ![0] bcast_S131_S131x1_0
    (select (cmpi .slt (wEx gs) (broadcastInDim S131 ![] bcast_S_S131 (constantI S_ 32 0#32)))
      (addi (wEx gs) (broadcastInDim S131 ![] bcast_S_S131 (constantI S_ 32 4#32))) (wEx gs))

/-- The tile of each step. -/
def wTile (gs : IVec S4 32) : IVec S131 32 :=
  subi (addi (Host.gather gather_S4_S131x1_S131_n_0_n_n_0_1_1 (wFirst gs) (wIdx gs)) (wStep gs))
    (Host.gather gather_S4_S131x1_S131_n_0_n_n_0_1_1 (subi (wSteps gs) (wTiles gs)) (wIdx gs))

/-- The group sizes as numbers. -/
def gN (gs : IVec S4 32) : ℕ → ℕ := fun e => if h : e < 4 then (gs (ix1 ⟨e, h⟩)).toNat else 0

variable {gs : IVec S4 32}

theorem sel_one {α : Type} {c : BitVec 1} (h : c = 1#1) (a b : α) : Scalar.select c a b = a := if_pos h
theorem sel_not {α : Type} {c : BitVec 1} (h : ¬ c = 1#1) (a b : α) : Scalar.select c a b = b := if_neg h

theorem gs_at (e : Fin 4) : gs (ix1 e) = BitVec.ofNat 32 (gN gs e) := by
  simp [gN, e.isLt]

theorem sum_hi (g : ℕ → ℕ) (e : ℕ) : ((List.range (e + 1)).map g).sum = WorkList.hi g e := by
  induction e with
  | zero => simp [WorkList.hi]
  | succ e ih => rw [List.range_succ, List.map_append, List.sum_append, ih]; simp [WorkList.hi]

theorem sum_se (g : ℕ → ℕ) (e : ℕ) : ((List.range (e + 1)).map (WorkList.nt g)).sum = WorkList.se g e := by
  induction e with
  | zero => simp [WorkList.se]
  | succ e ih => rw [List.range_succ, List.map_append, List.sum_append, ih]; simp [WorkList.se]

theorem zero_ap : broadcastInDim S_ ![] bcast_S_S_ (constantI S_ 32 0#32) ValueIdx.ix0 = 0#32 := by
  rw [bc0]; rfl

theorem wEnds_at (e : Fin 4) : wEnds gs (ix1 e) = BitVec.ofNat 32 (WorkList.hi (gN gs) e) :=
  (cumsum1 rfl gs (gN gs) gs_at _ zero_ap _ _ e).trans (congrArg _ (sum_hi _ _))

theorem sub_word {a b : ℕ} (h : b ≤ a) : BitVec.ofNat 32 a - BitVec.ofNat 32 b = BitVec.ofNat 32 (a - b) := by
  apply BitVec.eq_of_toNat_eq
  simp only [BitVec.toNat_sub, BitVec.toNat_ofNat]
  omega

theorem add_word {a b : ℕ} : BitVec.ofNat 32 a + BitVec.ofNat 32 b = BitVec.ofNat 32 (a + b) := by
  apply BitVec.eq_of_toNat_eq
  simp only [BitVec.toNat_add, BitVec.toNat_ofNat]
  omega

theorem wStarts_at (e : Fin 4) : wStarts gs (ix1 e) = BitVec.ofNat 32 (WorkList.lo (gN gs) e) := by
  have h := WorkList.hi_eq (g := gN gs) e
  show wEnds gs (ix1 e) - gs (ix1 e) = _
  rw [wEnds_at, gs_at (gs := gs), sub_word (by omega)]
  rfl

/-- The group sizes partition the rows. -/
def Parts (gs : IVec S4 32) : Prop := WorkList.hi (gN gs) 3 = 65536

theorem hi_mono (g : ℕ → ℕ) {a b : ℕ} (h : a ≤ b) : WorkList.hi g a ≤ WorkList.hi g b := by
  induction b, h using Nat.le_induction with
  | base => exact le_rfl
  | succ b _ ih => exact ih.trans (Nat.le_add_right _ _)

theorem hi_bound (hp : Parts gs) (e : Fin 4) : WorkList.hi (gN gs) e ≤ 65536 :=
  (hi_mono _ (by have := e.isLt; omega)).trans hp.le

theorem wDiv_at {x : IVec S4 32} {a : ℕ} (e : Fin 4) (hx : x (ix1 e) = BitVec.ofNat 32 a) (ha : a < 2 ^ 31) :
    wDiv x (ix1 e) = BitVec.ofNat 32 (a / 512) :=
  pyDiv_ap bcast_S_S4 x _ _ hx (b := 512) rfl ha (by norm_num) (by norm_num)

theorem wFirst_at (hp : Parts gs) (e : Fin 4) : wFirst gs (ix1 e) = BitVec.ofNat 32 (WorkList.ft (gN gs) e) :=
  wDiv_at e (wStarts_at e) (by have := hi_bound hp e; have := WorkList.hi_eq (g := gN gs) e; omega)

theorem bcS4 (v : IVec S_ 32) (j : S4.Idx) : broadcastInDim S4 ![] bcast_S_S4 v j = v ValueIdx.ix0 := bc0 bcast_S_S4 v j
theorem bcS131 (v : IVec S_ 32) (j : S131.Idx) : broadcastInDim S131 ![] bcast_S_S131 v j = v ValueIdx.ix0 := bc0 bcast_S_S131 v j

theorem wTiles_at (hp : Parts gs) (e : Fin 4) : wTiles gs (ix1 e) = BitVec.ofNat 32 (WorkList.nt (gN gs) e) := by
  have hb := hi_bound hp e
  have hh := WorkList.hi_eq (g := gN gs) e
  have hn : (gs (ix1 e)).toNat = gN gs e := by rw [gs_at (gs := gs), BitVec.toNat_ofNat]; omega
  have hc : cmpi .sgt gs (broadcastInDim S4 ![] bcast_S_S4 (constantI S_ 32 0#32)) (ix1 e) = 1#1 ↔ 0 < gN gs e := by
    show IntOp.cmpi .sgt (gs (ix1 e)) (broadcastInDim S4 ![] bcast_S_S4 (constantI S_ 32 0#32) (ix1 e)) = 1#1 ↔ _
    rw [bcS4, StableHlo.Predicate.sgt_iff_toNat (by omega) (by decide), hn]
    rfl
  unfold WorkList.nt
  by_cases h : 0 < gN gs e
  · refine (sel_one (hc.2 h) _ _).trans ?_
    rw [if_pos h]
    show wDiv _ (ix1 e) - wFirst gs (ix1 e) + broadcastInDim S4 ![] bcast_S_S4 (constantI S_ 32 1#32) (ix1 e) = _
    have hl : subi (wEnds gs) (broadcastInDim S4 ![] bcast_S_S4 (constantI S_ 32 1#32)) (ix1 e) = BitVec.ofNat 32 (WorkList.hi (gN gs) e - 1) := by
      show wEnds gs (ix1 e) - broadcastInDim S4 ![] bcast_S_S4 (constantI S_ 32 1#32) (ix1 e) = _
      rw [wEnds_at, bcS4]
      exact sub_word (b := 1) (by omega)
    rw [wDiv_at e hl (by omega), wFirst_at hp, bcS4, sub_word]
    · exact add_word (b := 1)
    · unfold WorkList.ft; exact Nat.div_le_div_right (by omega)
  · refine (sel_not (fun h' => h (hc.1 h')) _ _).trans ?_
    rw [if_neg h, bcS4]
    rfl

theorem wSteps_at (hp : Parts gs) (e : Fin 4) : wSteps gs (ix1 e) = BitVec.ofNat 32 (WorkList.se (gN gs) e) :=
  (cumsum1 rfl (wTiles gs) (WorkList.nt (gN gs)) (wTiles_at hp) _ zero_ap _ _ e).trans (congrArg _ (sum_se _ _))

theorem wN_at (hp : Parts gs) : wN gs (ix1 0) = BitVec.ofNat 32 (WorkList.n (gN gs)) :=
  (slice1 3 (wSteps gs) slices_S4_S1_3 (0 : Fin 1) (by decide)).trans (wSteps_at hp 3)

theorem wN_scalar (hp : Parts gs) : shapeCast S_ (wN gs) shapeCasts_S1_S_ ValueIdx.ix0 = BitVec.ofNat 32 (WorkList.n (gN gs)) := by
  refine (shapeCast_apply (wN gs) shapeCasts_S1_S_ ValueIdx.ix0 (ix1 0) ?_).trans (wN_at hp)
  have a := (S1.rowMajor (ix1 0)).isLt
  have b := (S_.rowMajor ValueIdx.ix0).isLt
  have e1 : S1.numel = 1 := by decide
  have e2 : S_.numel = 1 := by decide
  omega

theorem min_word {a b : ℕ} (ha : a < 2 ^ 31) (hb : b < 2 ^ 31) : IntOp.minsi (BitVec.ofNat 32 a) (BitVec.ofNat 32 b) = BitVec.ofNat 32 (min a b) := by
  unfold IntOp.minsi
  have hlt : (BitVec.ofNat 32 a).slt (BitVec.ofNat 32 b) = decide (a < b) := by
    rw [Bool.eq_iff_iff, decide_eq_true_iff, ← StableHlo.Predicate.slt_ofNat_iff _ _ ha hb]
    exact (StableHlo.Predicate.ofBool_eq_one_iff _).symm
  rw [hlt]
  by_cases h : a < b
  · rw [if_pos (by simpa using h), Nat.min_eq_left h.le]
  · rw [if_neg (by simpa using h), Nat.min_eq_right (by omega)]

theorem wLast (hp : Parts gs) : subi (shapeCast S_ (wN gs) shapeCasts_S1_S_) (constantI S_ 32 1#32) ValueIdx.ix0 = BitVec.ofNat 32 (WorkList.n (gN gs) - 1) := by
  have h1 := WorkList.n_pos hp
  refine (subi_ap _ _ _).trans ?_
  rw [wN_scalar hp]
  exact sub_word (b := 1) h1

theorem wStep_at (hp : Parts gs) (t : Fin 131) : wStep gs (ix1 t) = BitVec.ofNat 32 (WorkList.step (gN gs) t) := by
  have h2 := WorkList.n_le hp
  have ht := t.isLt
  have e1 : iotaInDim S131 32 0 (ix1 t) = BitVec.ofNat 32 t.val := rfl
  have e2 := (bcS131 (subi (shapeCast S_ (wN gs) shapeCasts_S1_S_) (constantI S_ 32 1#32)) (ix1 t)).trans (wLast hp)
  have e3 := min_word (a := t.val) (b := WorkList.n (gN gs) - 1) (by omega) (by omega)
  unfold wStep WorkList.step minsi
  rw [e1, e2, e3]

theorem se_bound (hp : Parts gs) (e : Fin 4) : WorkList.se (gN gs) e ≤ 131 := by
  have h2 := WorkList.n_le hp
  have hm : ∀ a, WorkList.se (gN gs) a ≤ WorkList.se (gN gs) (a + 1) := fun a => Nat.le_add_right _ _
  have h0 := hm 0
  have h1 := hm 1
  have h3 := hm 2
  unfold WorkList.n at h2
  match e with
  | 0 => exact h0.trans (h1.trans (h3.trans h2))
  | 1 => exact h1.trans (h3.trans h2)
  | 2 => exact h3.trans h2
  | 3 => exact h2

theorem wEx_at (hp : Parts gs) (t : Fin 131) : wEx gs (ix1 t) = BitVec.ofNat 32 (WorkList.ex (gN gs) t) := by
  have hq : ∀ q : Fin 4, cmpi .sge
      (broadcastInDim S131x4 ![0, 1] bcast_S131x1_S131x4_0_1 (broadcastInDim S131x1 ![0] bcast_S131_S131x1_0 (wStep gs)))
      (broadcastInDim S131x4 ![0, 1] bcast_S1x4_S131x4_0_1 (broadcastInDim S1x4 ![1] bcast_S4_S1x4_1 (wSteps gs))) (ix2 t q) = 1#1
        ↔ WorkList.se (gN gs) q ≤ WorkList.step (gN gs) t := fun q => by
    have h2 := WorkList.n_le hp
    have ht := t.isLt
    have hs := se_bound hp q
    have hst : WorkList.step (gN gs) t ≤ 131 := (Nat.min_le_left _ _).trans ht.le
    show IntOp.cmpi .sge (broadcastInDim S131x4 ![0, 1] bcast_S131x1_S131x4_0_1 (broadcastInDim S131x1 ![0] bcast_S131_S131x1_0 (wStep gs)) (ix2 t q))
      (broadcastInDim S131x4 ![0, 1] bcast_S1x4_S131x4_0_1 (broadcastInDim S1x4 ![1] bcast_S4_S1x4_1 (wSteps gs)) (ix2 t q)) = 1#1 ↔ _
    have e1 := bcRows bcast_S131_S131x1_0 bcast_S131x1_S131x4_0_1 (wStep gs) t q
    have e2 := bcCols bcast_S4_S1x4_1 bcast_S1x4_S131x4_0_1 (wSteps gs) t q
    refine (iff_of_eq (congrArg₂ (fun a b => IntOp.cmpi .sge a b = 1#1) (e1.trans (wStep_at hp t)) (e2.trans (wSteps_at hp q)))).trans ?_
    rw [StableHlo.Predicate.sge_iff_toNat (by rw [BitVec.toNat_ofNat]; omega) (by rw [BitVec.toNat_ofNat]; omega), BitVec.toNat_ofNat, BitVec.toNat_ofNat,
      Nat.mod_eq_of_lt (by omega), Nat.mod_eq_of_lt (by omega)]
  refine (reduce_count (by norm_num) _ natLt_1_32 reducesTo_S131x4_S131_d1 h_S_ t (fun q => WorkList.se (gN gs) q ≤ WorkList.step (gN gs) t) hq).trans (congrArg _ ?_)
  simp only [Nat.count_succ, Nat.count_zero, WorkList.ex, zero_add]

theorem wIdx_at (hp : Parts gs) (t : Fin 131) : wIdx gs (ix2 t (0 : Fin 1)) = BitVec.ofNat 32 (WorkList.ex (gN gs) t) := by
  have he := WorkList.ex_lt hp t
  refine (bcCol bcast_S131_S131x1_0 _ t).trans ?_
  show Scalar.select (IntOp.cmpi .slt (wEx gs (ix1 t)) (broadcastInDim S131 ![] bcast_S_S131 (constantI S_ 32 0#32) (ix1 t))) _ (wEx gs (ix1 t)) = _
  rw [bcS131, wEx_at hp]
  refine sel_not ?_ _ _
  show ¬ IntOp.cmpi .slt _ (0#32) = 1#1
  rw [StableHlo.Predicate.slt_iff_toNat (by rw [BitVec.toNat_ofNat]; omega) (by decide)]
  exact Nat.not_lt_zero _

theorem wTile_at (hp : Parts gs) (t : Fin 131) : wTile gs (ix1 t) = BitVec.ofNat 32 (WorkList.tile (gN gs) t) := by
  have he := WorkList.ex_lt hp t
  have hm := WorkList.tile_meets hp t
  have g1 := gather_take1 gather_S4_S131x1_S131_n_0_n_n_0_1_1 rfl rfl rfl rfl (wFirst gs) (wIdx gs) t ⟨_, he⟩ (wIdx_at hp t) (by norm_num)
  have g2 := gather_take1 gather_S4_S131x1_S131_n_0_n_n_0_1_1 rfl rfl rfl rfl (subi (wSteps gs) (wTiles gs)) (wIdx gs) t ⟨_, he⟩ (wIdx_at hp t) (by norm_num)
  have hse : WorkList.nt (gN gs) (WorkList.ex (gN gs) t) ≤ WorkList.se (gN gs) (WorkList.ex (gN gs) t) := by
    cases WorkList.ex (gN gs) t with
    | zero => exact le_rfl
    | succ e => exact Nat.le_add_left _ _
  have hss : subi (wSteps gs) (wTiles gs) (ix1 ⟨_, he⟩)
      = BitVec.ofNat 32 (WorkList.se (gN gs) (WorkList.ex (gN gs) t) - WorkList.nt (gN gs) (WorkList.ex (gN gs) t)) := by
    show wSteps gs (ix1 ⟨_, he⟩) - wTiles gs (ix1 ⟨_, he⟩) = _
    rw [wSteps_at hp, wTiles_at hp, sub_word hse]
  show Host.gather gather_S4_S131x1_S131_n_0_n_n_0_1_1 (wFirst gs) (wIdx gs) (ix1 t) + wStep gs (ix1 t)
    - Host.gather gather_S4_S131x1_S131_n_0_n_n_0_1_1 (subi (wSteps gs) (wTiles gs)) (wIdx gs) (ix1 t) = _
  refine (congrArg₂ (fun a b => a + wStep gs (ix1 t) - b) (g1.trans (wFirst_at hp _)) (g2.trans hss)).trans ?_
  rw [wStep_at hp]
  refine (congrArg (· - _) add_word).trans ((sub_word ?_).trans rfl)
  have := (WorkList.ex_spec hp t).2.1
  show _ ≤ WorkList.ft (gN gs) (WorkList.ex (gN gs) t) + _
  omega

end Cert.KernelIdeal.Hand
-- ==== Proof.HostRead.lean ====
module

public import proofs.«01_k».proof.Proof.Gen.KernelIdeal.Launch
public import proofs.«01_k».proof.Proof.Words
public import Idealize.ShloMosaic.Lib.StableHlo.RunRead

/-! # What the host operations leave

The buffers that the pallas_call reads, after the host operations: the tables as `Words` names them, the arguments as they were. -/

@[expose] public section

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

/-- The host operations, stretch by stretch. -/
abbrev stretches : List (List (HloOp τ sig (Elt F))) :=
  [hostOps0, hostOps0_1, hostOps0_2, hostOps0_3, hostOps0_4, hostOps0_5, hostOps0_6, hostOps0_7, hostOps0_8]

section

variable {V : Valuation τ sig (Elt F)} {gs : IVec S4 32}

theorem read_a (h : V (Proc.devRef .tc main_arg2) = gs) :
    after hostOps0 V (Proc.devRef .tc main_v0) = wEnds gs ∧ after hostOps0 V (Proc.devRef .tc main_arg2) = gs := by
  constructor
  · after_reads_simp; rw [h]; rfl
  · after_reads_simp; exact h

theorem read_b (h : V (Proc.devRef .tc main_arg2) = gs) (h0 : V (Proc.devRef .tc main_v0) = wEnds gs) :
    after hostOps0_1 V (Proc.devRef .tc main_v0) = wEnds gs ∧ after hostOps0_1 V (Proc.devRef .tc main_arg2) = gs
      ∧ after hostOps0_1 V (Proc.devRef .tc main_v1) = wStarts gs ∧ after hostOps0_1 V (Proc.devRef .tc main_c) = constantI S_ 32 512#32 := by
  refine ⟨?_, ?_, ?_, ?_⟩
  · after_reads_simp; exact h0
  · after_reads_simp; exact h
  · after_reads_simp; rw [h, h0]; rfl
  · after_reads_simp

theorem read_c (h1 : V (Proc.devRef .tc main_v1) = wStarts gs) (hc : V (Proc.devRef .tc main_c) = constantI S_ 32 512#32) :
    after hostOps0_2 V (Proc.devRef .tc main_v2) = wFirst gs := by
  after_reads_simp; rw [h1, hc]; rfl

/-- What the floor divisions and the tile counts read and leave, from the contents after the first division. -/
theorem read_d (h : V (Proc.devRef .tc main_arg2) = gs) (h0 : V (Proc.devRef .tc main_v0) = wEnds gs) :
    after hostOps0_3 V (Proc.devRef .tc main_v4) = cmpi .sgt gs (broadcastInDim S4 ![] bcast_S_S4 (constantI S_ 32 0#32))
      ∧ after hostOps0_3 V (Proc.devRef .tc main_v6) = subi (wEnds gs) (broadcastInDim S4 ![] bcast_S_S4 (constantI S_ 32 1#32))
      ∧ after hostOps0_3 V (Proc.devRef .tc main_c_2) = constantI S_ 32 512#32 := by
  refine ⟨?_, ?_, ?_⟩
  · after_reads_simp; rw [h]
  · after_reads_simp; rw [h0]
  · after_reads_simp

theorem read_e {x : IVec S4 32} (h1 : V (Proc.devRef .tc main_v6) = x) (hc : V (Proc.devRef .tc main_c_2) = constantI S_ 32 512#32) :
    after hostOps0_4 V (Proc.devRef .tc main_v7) = wDiv x := by
  after_reads_simp; rw [h1, hc]; rfl

theorem read_f {x y : IVec S4 32} (h7 : V (Proc.devRef .tc main_v7) = x) (h2 : V (Proc.devRef .tc main_v2) = y) :
    after hostOps0_5 V (Proc.devRef .tc main_v10) = addi (subi x y) (broadcastInDim S4 ![] bcast_S_S4 (constantI S_ 32 1#32))
      ∧ after hostOps0_5 V (Proc.devRef .tc main_c_4) = constantI S_ 32 0#32 := by
  constructor
  · after_reads_simp; rw [h7, h2]
  · after_reads_simp

theorem read_g {c : IVec S4 1} {x : IVec S4 32} (h4 : V (Proc.devRef .tc main_v4) = c) (h10 : V (Proc.devRef .tc main_v10) = x)
    (hc : V (Proc.devRef .tc main_c_4) = constantI S_ 32 0#32) :
    after hostOps0_6 V (Proc.devRef .tc main_v11) = select c x (broadcastInDim S4 ![] bcast_S_S4 (constantI S_ 32 0#32)) := by
  after_reads_simp; rw [h4, h10, hc]; rfl

theorem read_h (h11 : V (Proc.devRef .tc main_v11) = wTiles gs) : after hostOps0_7 V (Proc.devRef .tc main_v12) = wSteps gs := by
  after_reads_simp; rw [h11]; rfl

theorem read_ex (h12 : V (Proc.devRef .tc main_v12) = wSteps gs) : after hostOps0_8 V (Proc.devRef .tc main_v26) = wEx gs := by
  after_reads_simp; rw [h12]; rfl

theorem read_n (h12 : V (Proc.devRef .tc main_v12) = wSteps gs) : after hostOps0_8 V (Proc.devRef .tc main_v43) = wN gs := by
  after_reads_simp; rw [h12]; rfl

theorem read_tile (h12 : V (Proc.devRef .tc main_v12) = wSteps gs) (h11 : V (Proc.devRef .tc main_v11) = wTiles gs)
    (h2 : V (Proc.devRef .tc main_v2) = wFirst gs) : after hostOps0_8 V (Proc.devRef .tc main_v42) = wTile gs := by
  after_reads_simp; rw [h12, h11, h2]; rfl

theorem read_ws (x : Vec F S4x5632 .f32) (h : V (Proc.devRef .tc main_arg4) = x) :
    after hostOps0_8 V (Proc.devRef .tc main_v44) = shapeCast S4x1x5632 x shapeCasts_S4x5632_S4x1x5632 := by
  after_reads_simp; rw [h]; rfl

/-- The references that the host operations after the first stretch write. -/
theorem kept_arg2 : after hostOps0_2 V (Proc.devRef .tc main_arg2) = V (Proc.devRef .tc main_arg2)
    ∧ after hostOps0_2 V (Proc.devRef .tc main_v0) = V (Proc.devRef .tc main_v0) := by
  constructor
  · after_reads_simp
  · after_reads_simp

theorem kept_c : after hostOps0_2 V (Proc.devRef .tc main_v1) = V (Proc.devRef .tc main_v1) := by after_reads_simp

/-- The starts and the first tiles pass the stretches after them. -/
theorem kept_d : after hostOps0_3 V (Proc.devRef .tc main_v0) = V (Proc.devRef .tc main_v0)
    ∧ after hostOps0_3 V (Proc.devRef .tc main_v1) = V (Proc.devRef .tc main_v1)
    ∧ after hostOps0_3 V (Proc.devRef .tc main_v2) = V (Proc.devRef .tc main_v2) := by
  refine ⟨?_, ?_, ?_⟩ <;> after_reads_simp

theorem kept_e : after hostOps0_4 V (Proc.devRef .tc main_v0) = V (Proc.devRef .tc main_v0)
    ∧ after hostOps0_4 V (Proc.devRef .tc main_v1) = V (Proc.devRef .tc main_v1)
    ∧ after hostOps0_4 V (Proc.devRef .tc main_v2) = V (Proc.devRef .tc main_v2)
    ∧ after hostOps0_4 V (Proc.devRef .tc main_v4) = V (Proc.devRef .tc main_v4) := by
  refine ⟨?_, ?_, ?_, ?_⟩ <;> after_reads_simp

theorem kept_f : after hostOps0_5 V (Proc.devRef .tc main_v0) = V (Proc.devRef .tc main_v0)
    ∧ after hostOps0_5 V (Proc.devRef .tc main_v1) = V (Proc.devRef .tc main_v1)
    ∧ after hostOps0_5 V (Proc.devRef .tc main_v2) = V (Proc.devRef .tc main_v2)
    ∧ after hostOps0_5 V (Proc.devRef .tc main_v4) = V (Proc.devRef .tc main_v4) := by
  refine ⟨?_, ?_, ?_, ?_⟩ <;> after_reads_simp

theorem kept_g : after hostOps0_6 V (Proc.devRef .tc main_v0) = V (Proc.devRef .tc main_v0)
    ∧ after hostOps0_6 V (Proc.devRef .tc main_v1) = V (Proc.devRef .tc main_v1)
    ∧ after hostOps0_6 V (Proc.devRef .tc main_v2) = V (Proc.devRef .tc main_v2) := by
  refine ⟨?_, ?_, ?_⟩ <;> after_reads_simp

theorem kept_h : after hostOps0_7 V (Proc.devRef .tc main_v0) = V (Proc.devRef .tc main_v0)
    ∧ after hostOps0_7 V (Proc.devRef .tc main_v1) = V (Proc.devRef .tc main_v1)
    ∧ after hostOps0_7 V (Proc.devRef .tc main_v2) = V (Proc.devRef .tc main_v2)
    ∧ after hostOps0_7 V (Proc.devRef .tc main_v11) = V (Proc.devRef .tc main_v11) := by
  refine ⟨?_, ?_, ?_, ?_⟩ <;> after_reads_simp

theorem kept_i : after hostOps0_8 V (Proc.devRef .tc main_v0) = V (Proc.devRef .tc main_v0)
    ∧ after hostOps0_8 V (Proc.devRef .tc main_v1) = V (Proc.devRef .tc main_v1) := by
  refine ⟨?_, ?_⟩ <;> after_reads_simp

/-- The operations' contents, stretch by stretch. -/
theorem after_stretches (V : Valuation τ sig (Elt F)) : after stretches.flatten V
    = after hostOps0_8 (after hostOps0_7 (after hostOps0_6 (after hostOps0_5 (after hostOps0_4 (after hostOps0_3 (after hostOps0_2
      (after hostOps0_1 (after hostOps0 V)))))))) := by
  simp only [stretches, List.flatten_cons, List.flatten_nil, List.append_nil, after_append]

/-- The five tables after the host operations. -/
theorem tables_read (h : V (Proc.devRef .tc main_arg2) = gs) :
    after stretches.flatten V (Proc.devRef .tc main_v42) = wTile gs ∧ after stretches.flatten V (Proc.devRef .tc main_v26) = wEx gs
      ∧ after stretches.flatten V (Proc.devRef .tc main_v1) = wStarts gs ∧ after stretches.flatten V (Proc.devRef .tc main_v0) = wEnds gs
      ∧ after stretches.flatten V (Proc.devRef .tc main_v43) = wN gs := by
  rw [after_stretches]
  obtain ⟨a0, a2⟩ := read_a h
  obtain ⟨b0, b2, b1, bc⟩ := read_b a2 a0
  have c2 := read_c b1 bc
  obtain ⟨k2, k0⟩ := kept_arg2 (V := after hostOps0_1 (after hostOps0 V))
  have k1 : after hostOps0_2 (after hostOps0_1 (after hostOps0 V)) (Proc.devRef .tc main_v1) = wStarts gs := (show after hostOps0_2 _ (Proc.devRef .tc main_v1) = after hostOps0_1 (after hostOps0 V) (Proc.devRef .tc main_v1) from kept_c).trans b1
  have c0 := k0.trans b0
  obtain ⟨d4, d6, dc⟩ := read_d (k2.trans b2) c0
  have e7 := read_e d6 dc
  obtain ⟨kd0, kd1, kd2⟩ := kept_d (V := after hostOps0_2 (after hostOps0_1 (after hostOps0 V)))
  obtain ⟨ke0, ke1, ke2, ke4⟩ := kept_e (V := after hostOps0_3 (after hostOps0_2 (after hostOps0_1 (after hostOps0 V))))
  obtain ⟨f10, fc⟩ := read_f e7 (ke2.trans (kd2.trans c2))
  obtain ⟨kf0, kf1, kf2, kf4⟩ := kept_f (V := after hostOps0_4 (after hostOps0_3 (after hostOps0_2 (after hostOps0_1 (after hostOps0 V)))))
  have g11 := read_g (kf4.trans (ke4.trans d4)) f10 fc
  obtain ⟨kg0, kg1, kg2⟩ := kept_g (V := after hostOps0_5 (after hostOps0_4 (after hostOps0_3 (after hostOps0_2 (after hostOps0_1 (after hostOps0 V))))))
  have h12 := read_h (gs := gs) g11
  obtain ⟨kh0, kh1, kh2, kh11⟩ := kept_h (V := after hostOps0_6 (after hostOps0_5 (after hostOps0_4 (after hostOps0_3 (after hostOps0_2 (after hostOps0_1 (after hostOps0 V)))))))
  obtain ⟨ki0, ki1⟩ := kept_i (V := after hostOps0_7 (after hostOps0_6 (after hostOps0_5 (after hostOps0_4 (after hostOps0_3 (after hostOps0_2 (after hostOps0_1 (after hostOps0 V))))))))
  refine ⟨read_tile h12 (kh11.trans g11) (kh2.trans (kg2.trans (kf2.trans (ke2.trans (kd2.trans c2))))), read_ex h12, ?_, ?_, read_n h12⟩
  · exact ki1.trans (kh1.trans (kg1.trans (kf1.trans (ke1.trans (kd1.trans k1)))))
  · exact ki0.trans (kh0.trans (kg0.trans (kf0.trans (ke0.trans (kd0.trans c0)))))

end

/-- The arguments pass the host operations. -/
theorem args_read (V : Valuation τ sig (Elt F)) :
    after stretches.flatten V (Proc.devRef .tc main_arg0) = V (Proc.devRef .tc main_arg0)
      ∧ after stretches.flatten V (Proc.devRef .tc main_arg1) = V (Proc.devRef .tc main_arg1)
      ∧ after stretches.flatten V (Proc.devRef .tc main_arg2) = V (Proc.devRef .tc main_arg2)
      ∧ after stretches.flatten V (Proc.devRef .tc main_arg3) = V (Proc.devRef .tc main_arg3)
      ∧ after stretches.flatten V (Proc.devRef .tc main_arg4) = V (Proc.devRef .tc main_arg4)
      ∧ after stretches.flatten V (Proc.devRef .tc main_v44) = shapeCast S4x1x5632 (V (Proc.devRef .tc main_arg4)) shapeCasts_S4x5632_S4x1x5632 := by
  rw [after_stretches]
  refine ⟨?_, ?_, ?_, ?_, ?_, ?_⟩ <;> after_reads_simp
  rfl

end Cert.KernelIdeal.Hand
-- ==== Proof.Chunk.lean ====
module

public import proofs.«01_k».proof.Proof.Gen.KernelIdeal.Skeleton
public import Idealize.ShloMosaic.Lib.WholeRead
public import Idealize.ShloMosaic.Lib.Writes
public import Idealize.ShloMosaic.Lib.Pipeline.ValueKit.Tiles

/-! # What the kernel's body leaves in its output block

A grid step multiplies one row tile by one expert's weights, in eleven chunks of 512 columns. `yv` is that
product as one block. A step that revisits a tile keeps the rows of the other experts: `selv`. -/

@[expose] public section

noncomputable section

namespace Cert.KernelIdeal.Hand

open Cert.KernelIdeal Cert.KernelIdeal.Gen
open Idealize.ShloMosaic Idealize.ShloMosaic.TcCoe

variable {F : FTy → Type} [FloatOps F]

theorem inbW (k : Fin 11) : ∀ a, (![0, 0, 512 * k.val] : Fin 3 → ℕ) a + S1x2816x512.size a ≤ S1x2816x5632.size a := by
  intro a; have := k.isLt; fin_cases a <;> simp <;> omega

theorem inbS (k : Fin 11) : ∀ a, (![0, 0, 512 * k.val] : Fin 3 → ℕ) a + S1x1x512.size a ≤ S1x1x5632.size a := by
  intro a; have := k.isLt; fin_cases a <;> simp <;> omega

theorem inbO (k : Fin 11) : ∀ a, (![0, 512 * k.val] : Fin 2 → ℕ) a + S512x512.size a ≤ S512x5632.size a := by
  intro a; have := k.isLt; fin_cases a <;> simp <;> omega

/-- Chunk `k` of the weights' columns. -/
def colW (x8 : Vec F S1x2816x5632 .fp8e4m3) (k : Fin 11) : Vec F S1x2816x512 .fp8e4m3 :=
  fun j => x8 ((Rect.unit (s := S1x2816x5632) ![0, 0, 512 * k.val] S1x2816x512.size (inbW k)).idx j)

/-- Chunk `k` of the column scales. -/
def colS (x9 : Vec F S1x1x5632 .f32) (k : Fin 11) : Vec F S1x1x512 .f32 :=
  fun j => x9 ((Rect.unit (s := S1x1x5632) ![0, 0, 512 * k.val] S1x1x512.size (inbS k)).idx j)

/-- The chunk an output column is in. -/
def kOf (y : S512x5632.Idx) : Fin 11 := ⟨(y 1).val / 512, by have h : (y 1).val < 5632 := (y 1).isLt; omega⟩

/-- Its place in the chunk. -/
def inChunk (y : S512x5632.Idx) : S512x512.Idx :=
  fun a => match a with
    | ⟨0, _⟩ => ⟨(y 0).val, (y 0).isLt⟩
    | ⟨1, _⟩ => ⟨(y 1).val % 512, Nat.mod_lt _ (by decide)⟩

/-- The block of products: the tile times the expert's weights, scaled, rounded. -/
def yv (x6 : Vec F S512x2816 .fp8e4m3) (x7 : Vec F S512x1 .f32) (x8 : Vec F S1x2816x5632 .fp8e4m3) (x9 : Vec F S1x1x5632 .f32) :
    Vec F S512x5632 .bf16 :=
  fun y => k0_pay2 x6 (colW x8 (kOf y)) x7 (colS x9 (kOf y)) (inChunk y)

/-- The block's row. -/
def rowIdx (y : S512x5632.Idx) : S512x1.Idx :=
  fun a => match a with
    | ⟨0, _⟩ => ⟨(y 0).val, (y 0).isLt⟩
    | ⟨1, _⟩ => ⟨0, Nat.one_pos⟩

/-- The products on the rows of the step's expert (`mask`), the earlier block `d` elsewhere. -/
def selv (mask : IVec S512x1 1) (x6 : Vec F S512x2816 .fp8e4m3) (x7 : Vec F S512x1 .f32) (x8 : Vec F S1x2816x5632 .fp8e4m3)
    (x9 : Vec F S1x1x5632 .f32) (d : Vec F S512x5632 .bf16) : Vec F S512x5632 .bf16 :=
  fun y => if mask (rowIdx y) = 1 then yv x6 x7 x8 x9 y else d y

theorem kOf_emb (k : Fin 11) (inb) (x : S512x512.Idx) :
    kOf ((Rect.unit (s := S512x5632) ![0, 512 * k.val] S512x512.size inb).idx x) = k := by
  have h := Rect.idx_unit_val (s := S512x5632) ![0, 512 * k.val] S512x512.size inb x 1
  have h2 : (x 1).val < 512 := (x 1).isLt
  apply Fin.ext
  show ((Rect.unit (s := S512x5632) ![0, 512 * k.val] S512x512.size inb).idx x 1).val / 512 = k.val
  rw [h]; show (512 * k.val + (x 1).val) / 512 = k.val; omega

theorem inChunk_emb (k : Fin 11) (inb) (x : S512x512.Idx) :
    inChunk ((Rect.unit (s := S512x5632) ![0, 512 * k.val] S512x512.size inb).idx x) = x := by
  have h0 := Rect.idx_unit_val (s := S512x5632) ![0, 512 * k.val] S512x512.size inb x 0
  have h := Rect.idx_unit_val (s := S512x5632) ![0, 512 * k.val] S512x512.size inb x 1
  have h2 : (x 1).val < 512 := (x 1).isLt
  funext a
  match a with
  | ⟨0, _⟩ =>
    apply Fin.ext
    show ((Rect.unit (s := S512x5632) ![0, 512 * k.val] S512x512.size inb).idx x 0).val = (x 0).val
    rw [h0]; show 0 + (x 0).val = _; omega
  | ⟨1, _⟩ =>
    apply Fin.ext
    show ((Rect.unit (s := S512x5632) ![0, 512 * k.val] S512x512.size inb).idx x 1).val % 512 = (x 1).val
    rw [h]; show (512 * k.val + (x 1).val) % 512 = (x 1).val; omega

/-- On chunk `k` the block is the chunk's product. -/
theorem yv_emb (x6 : Vec F S512x2816 .fp8e4m3) (x7 : Vec F S512x1 .f32) (x8 : Vec F S1x2816x5632 .fp8e4m3) (x9 : Vec F S1x1x5632 .f32)
    (k : Fin 11) (inb) (x : S512x512.Idx) :
    yv x6 x7 x8 x9 ((Rect.unit (s := S512x5632) ![0, 512 * k.val] S512x512.size inb).idx x) = k0_pay2 x6 (colW x8 k) x7 (colS x9 k) x := by
  unfold yv; rw [kOf_emb, inChunk_emb]

theorem idx_whole {s : Shape} (off : Fin s.rank → ℕ) (h0 : ∀ a, off a = 0) (inb) (x : s.Idx) :
    (Rect.unit (s := s) off s.size inb).idx x = x := by
  funext a; apply Fin.ext; rw [Rect.idx_unit_val, h0]; exact Nat.zero_add _

/-- A whole block loaded from a buffer holding it. -/
theorem ld_whole {sp : Space} {s : Shape} {e : EltTy} (m : Memref sig .tc sp s e) (h : m.IsWhole) (off : Fin s.rank → ℕ)
    (h0 : ∀ a, off a = 0) (inb) (X : s.Idx → Elt F e) :
    View.readAt (Elt F) m.view (Rect.unit (s := s) off s.size inb).toLoadRect (h.unread X) = X :=
  funext fun x => (h.readAt_unread X _ x).trans (congrArg X (idx_whole off h0 inb x))

section
variable (arg6 : Memref sig .tc .vmem S512x2816 .fp8e4m3) (harg6 : arg6.IsWhole) (arg7 : Memref sig .tc .vmem S512x1 .f32) (harg7 : arg7.IsWhole)
  (arg8 : Memref sig .tc .vmem S1x2816x5632 .fp8e4m3) (harg8 : arg8.IsWhole) (arg9 : Memref sig .tc .vmem S1x1x5632 .f32) (harg9 : arg9.IsWhole)
  (arg10 : Memref sig .tc .vmem S512x5632 .bf16) (harg10 : arg10.IsWhole)
  (x6 : Vec F S512x2816 .fp8e4m3) (x7 : Vec F S512x1 .f32) (x8 : Vec F S1x2816x5632 .fp8e4m3) (x9 : Vec F S1x1x5632 .f32) (d : Vec F S512x5632 .bf16)

/-- The chunk's product of what the buffers hold. -/
theorem pay_read (k : Fin 11) (h6 h7 h8 h9) :
    k0_pay2 (View.readAt (Elt F) arg6.view (Rect.unit (s := S512x2816) ![0, 0] S512x2816.size h6).toLoadRect (harg6.unread x6))
      (View.readAt (Elt F) arg8.view (Rect.unit (s := S1x2816x5632) ![0, 0, 512 * k.val] S1x2816x512.size h8).toLoadRect (harg8.unread x8))
      (View.readAt (Elt F) arg7.view (Rect.unit (s := S512x1) ![0, 0] S512x1.size h7).toLoadRect (harg7.unread x7))
      (View.readAt (Elt F) arg9.view (Rect.unit (s := S1x1x5632) ![0, 0, 512 * k.val] S1x1x512.size h9).toLoadRect (harg9.unread x9))
      = k0_pay2 x6 (colW x8 k) x7 (colS x9 k) := by
  rw [ld_whole arg6 harg6 _ (by decide), ld_whole arg7 harg7 _ (by decide)]
  congr 1
  · exact funext fun x => harg8.readAt_unread x8 _ x
  · exact funext fun x => harg9.readAt_unread x9 _ x

/-- A first visit's store of chunk `k` is the block's chunk. -/
theorem piece_first (k : Fin 11) (h6 h7 h8 h9 inb) (x : S512x512.Idx) :
    k0_pay2 (View.readAt (Elt F) arg6.view (Rect.unit (s := S512x2816) ![0, 0] S512x2816.size h6).toLoadRect (harg6.unread x6))
      (View.readAt (Elt F) arg8.view (Rect.unit (s := S1x2816x5632) ![0, 0, 512 * k.val] S1x2816x512.size h8).toLoadRect (harg8.unread x8))
      (View.readAt (Elt F) arg7.view (Rect.unit (s := S512x1) ![0, 0] S512x1.size h7).toLoadRect (harg7.unread x7))
      (View.readAt (Elt F) arg9.view (Rect.unit (s := S1x1x5632) ![0, 0, 512 * k.val] S1x1x512.size h9).toLoadRect (harg9.unread x9)) x
      = yv x6 x7 x8 x9 ((Rect.unit (s := S512x5632) ![0, 512 * k.val] S512x512.size inb).emb x) := by
  rw [pay_read]; exact (yv_emb x6 x7 x8 x9 k inb x).symm

/-- The value a revisit stores on a chunk: the product where the mask holds, else what was there. -/
def selChunk (mask : IVec S512x1 1) (y o : FVec F S512x512 .bf16) : FVec F S512x512 .bf16 :=
  select (broadcastTo S512x512 (shapeCast S512x1 mask shapeCasts_S512x1_S512x1) broadcasts_S512x1_S512x512) y
    (shapeCast S512x512 o shapeCasts_S512x512_S512x512)

theorem selChunk_apply (mask : IVec S512x1 1) (y o : FVec F S512x512 .bf16) (k : Fin 11) (inb) (x : S512x512.Idx) :
    selChunk mask y o x = if mask (rowIdx ((Rect.unit (s := S512x5632) ![0, 512 * k.val] S512x512.size inb).idx x)) = 1 then y x else o x := by
  have e1 : shapeCast S512x512 o shapeCasts_S512x512_S512x512 = o := shapeCast_self _ _
  have e2 : shapeCast S512x1 mask shapeCasts_S512x1_S512x1 = mask := shapeCast_self _ _
  unfold selChunk; rw [e1, e2]
  show (if (broadcastTo S512x512 mask broadcasts_S512x1_S512x512) x = 1 then y x else o x) = _
  have e3 : (broadcastTo S512x512 mask broadcasts_S512x1_S512x512) x = mask (rowIdx ((Rect.unit (s := S512x5632) ![0, 512 * k.val] S512x512.size inb).idx x)) := by
    unfold broadcastTo
    refine congrArg mask (funext fun a => Fin.ext ?_)
    match a with
    | ⟨0, _⟩ =>
      have h0 := Rect.idx_unit_val (s := S512x5632) ![0, 512 * k.val] S512x512.size inb x 0
      show _ = ((Rect.unit (s := S512x5632) ![0, 512 * k.val] S512x512.size inb).idx x 0).val
      rw [h0]; show (x 0).val = 0 + (x 0).val; omega
    | ⟨1, _⟩ => rfl
  rw [e3]

/-- A revisit's store of chunk `k`. -/
theorem piece_again (mask : IVec S512x1 1) (k : Fin 11) (h6 h7 h8 h9 inb inb') (x : S512x512.Idx) :
    selChunk mask (k0_pay2 (View.readAt (Elt F) arg6.view (Rect.unit (s := S512x2816) ![0, 0] S512x2816.size h6).toLoadRect (harg6.unread x6))
      (View.readAt (Elt F) arg8.view (Rect.unit (s := S1x2816x5632) ![0, 0, 512 * k.val] S1x2816x512.size h8).toLoadRect (harg8.unread x8))
      (View.readAt (Elt F) arg7.view (Rect.unit (s := S512x1) ![0, 0] S512x1.size h7).toLoadRect (harg7.unread x7))
      (View.readAt (Elt F) arg9.view (Rect.unit (s := S1x1x5632) ![0, 0, 512 * k.val] S1x1x512.size h9).toLoadRect (harg9.unread x9)))
      (View.readAt (Elt F) arg10.view (Rect.unit (s := S512x5632) ![0, 512 * k.val] S512x512.size inb').toLoadRect (harg10.unread d)) x
      = selv mask x6 x7 x8 x9 d ((Rect.unit (s := S512x5632) ![0, 512 * k.val] S512x512.size inb).emb x) := by
  rw [pay_read, selChunk_apply mask _ _ k inb]
  show _ = selv mask x6 x7 x8 x9 d ((Rect.unit (s := S512x5632) ![0, 512 * k.val] S512x512.size inb).idx x)
  unfold selv
  rw [yv_emb, harg10.readAt_unread]
end

end Cert.KernelIdeal.Hand

end
-- ==== Proof.Body.lean ====
module

public import proofs.«01_k».proof.Proof.Gen.KernelIdeal.Launch
public import proofs.«01_k».proof.Proof.Gen.KernelIdeal.Skeleton
public import proofs.«01_k».proof.Proof.Chunk
public import Idealize.ShloMosaic.Lib.Tactic
public import Idealize.ShloMosaic.Lib.Pipeline.FrameBody
public import Idealize.ShloMosaic.Lib.Ring

/-! # The kernel's body at one grid step

Three runs of the body: on a step that first visits its tile, on one that revisits it, and on one past the work list.
Each hands back the tables and the input blocks as they were. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a load of one word of a table returns: the table held whole at `T`, the load at offset `off`. -/
abbrev rd {n : ℕ} (arg : Memref sig .tc .smem ⟨1, ![n]⟩ .i32) (harg : arg.IsWhole) (T : Vec F ⟨1, ![n]⟩ .i32) (off : Fin 1 → ℕ)
    (h : ∀ a, off a + S1.size a ≤ (⟨1, ![n]⟩ : Shape).size a) : BitVec 32 :=
  View.readAt (Elt F) arg.view (Rect.unit (s := ⟨1, ![n]⟩) off S1.size h).toLoadRect (harg.unread T) (Shape.Idx.first (s := S1) (numel1_S1.symm ▸ Nat.one_pos))

section
variable (c : Dev nD) (i : grid0.Coords) (q : PosShare TreeShare)
    (arg1 : Memref sig .tc .smem S131 .i32) (harg1 : arg1.IsWhole) (arg2 : Memref sig .tc .smem S131 .i32) (harg2 : arg2.IsWhole)
    (arg3 : Memref sig .tc .smem S4 .i32) (harg3 : arg3.IsWhole) (arg4 : Memref sig .tc .smem S4 .i32) (harg4 : arg4.IsWhole)
    (arg5 : Memref sig .tc .smem S1 .i32) (harg5 : arg5.IsWhole)
    (arg6 : Memref sig .tc .vmem S512x2816 .fp8e4m3) (harg6 : arg6.IsWhole) (arg7 : Memref sig .tc .vmem S512x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S512x5632 .bf16) (harg10 : arg10.IsWhole)
    (T1 T2 : Vec F S131 .i32) (T3 T4 : Vec F S4 .i32) (T5 : Vec F S1 .i32)
    (x6 : Vec F S512x2816 .fp8e4m3) (x7 : Vec F S512x1 .f32) (x8 : Vec F S1x2816x5632 .fp8e4m3) (x9 : Vec F S1x1x5632 .f32)

/-- The tables, the input blocks and the output block of a grid step, the output block holding `d`. -/
abbrev held (d : Vec F S512x5632 .bf16) : sProp 𝕄 :=
  iprop(owns (c : Thread nD τ) arg1 q T1 ∗ owns (c : Thread nD τ) arg2 q T2 ∗ owns (c : Thread nD τ) arg3 q T3
    ∗ owns (c : Thread nD τ) arg4 q T4 ∗ owns (c : Thread nD τ) arg5 q T5
    ∗ owns (c : Thread nD τ) arg6 fullShare x6 ∗ owns (c : Thread nD τ) arg7 fullShare x7 ∗ owns (c : Thread nD τ) arg8 fullShare x8
    ∗ owns (c : Thread nD τ) arg9 fullShare x9 ∗ owns (c : Thread nD τ) arg10 fullShare d)

set_option maxHeartbeats 4000000 in
/-- A step that first visits its tile fills the block with the products. -/
theorem run_first
    (hchk : k0_chk1 i (rd arg1 harg1 T1 (k0_off1 i) (k0_off1_inb i)) (rd arg2 harg2 T2 (k0_off1 i) (k0_off1_inb i)) (rd arg5 harg5 T5 ![0] inb_S1_S1_0) (rd arg1 harg1 T1 (k0_off2 i) (k0_off2_inb i)))
    (h1 : k0_cond1 i (rd arg1 harg1 T1 (k0_off1 i) (k0_off1_inb i)) (rd arg5 harg5 T5 ![0] inb_S1_S1_0) (rd arg1 harg1 T1 (k0_off2 i) (k0_off2_inb i)) = 1#1)
    (h2 : ¬ k0_cond2 i (rd arg1 harg1 T1 (k0_off1 i) (k0_off1_inb i)) (rd arg5 harg5 T5 ![0] inb_S1_S1_0) (rd arg1 harg1 T1 (k0_off2 i) (k0_off2_inb i)) = 1#1)
    (d : Vec F S512x5632 .bf16) (E : Set ℕ) (K : PUnit → sProp 𝕄) :
    iprop((held c q arg1 arg2 arg3 arg4 arg5 arg6 arg7 arg8 arg9 arg10 T1 T2 T3 T4 T5 x6 x7 x8 x9 d) ∗ (((held c q arg1 arg2 arg3 arg4 arg5 arg6 arg7 arg8 arg9 arg10 T1 T2 T3 T4 T5 x6 x7 x8 x9 (yv x6 x7 x8 x9)) : sProp 𝕄) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton]
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hchk | exact h1 | exact h2)
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    iexists _; isplitr; swap; · iexact H10
    ipureintro
    refine funext fun y => View.read_writes_apply_of_pieces _ _ (yv x6 x7 x8 x9) _ ?_ y ?_
    · intro p hp x
      simp only [List.mem_cons, List.not_mem_nil, or_false] at hp
      rcases hp with rfl | rfl | rfl | rfl | rfl | rfl | rfl | rfl | rfl | rfl | rfl
      · exact piece_first arg6 harg6 arg7 harg7 arg8 harg8 arg9 harg9 x6 x7 x8 x9 10 _ _ _ _ (inbO 10) x
      · exact piece_first arg6 harg6 arg7 harg7 arg8 harg8 arg9 harg9 x6 x7 x8 x9 9 _ _ _ _ (inbO 9) x
      · exact piece_first arg6 harg6 arg7 harg7 arg8 harg8 arg9 harg9 x6 x7 x8 x9 8 _ _ _ _ (inbO 8) x
      · exact piece_first arg6 harg6 arg7 harg7 arg8 harg8 arg9 harg9 x6 x7 x8 x9 7 _ _ _ _ (inbO 7) x
      · exact piece_first arg6 harg6 arg7 harg7 arg8 harg8 arg9 harg9 x6 x7 x8 x9 6 _ _ _ _ (inbO 6) x
      · exact piece_first arg6 harg6 arg7 harg7 arg8 harg8 arg9 harg9 x6 x7 x8 x9 5 _ _ _ _ (inbO 5) x
      · exact piece_first arg6 harg6 arg7 harg7 arg8 harg8 arg9 harg9 x6 x7 x8 x9 4 _ _ _ _ (inbO 4) x
      · exact piece_first arg6 harg6 arg7 harg7 arg8 harg8 arg9 harg9 x6 x7 x8 x9 3 _ _ _ _ (inbO 3) x
      · exact piece_first arg6 harg6 arg7 harg7 arg8 harg8 arg9 harg9 x6 x7 x8 x9 2 _ _ _ _ (inbO 2) x
      · exact piece_first arg6 harg6 arg7 harg7 arg8 harg8 arg9 harg9 x6 x7 x8 x9 1 _ _ _ _ (inbO 1) x
      · exact piece_first arg6 harg6 arg7 harg7 arg8 harg8 arg9 harg9 x6 x7 x8 x9 0 _ _ _ _ (inbO 0) x
    · exact View.cover_of_tiledL (s := S512x5632) _ S512x512.size (by sl_kernel_rfl) y

end

end Cert.KernelIdeal.Hand

end
-- ==== Proof.Tables.lean ====
module

public import proofs.«01_k».proof.Proof.HostRead
public import proofs.«01_k».proof.Proof.Body
public import Idealize.ShloMosaic.Lib.WordCmp
public import Idealize.ShloMosaic.Lib.WholeRead

/-! # The tables the kernel prefetches

The precondition read as a statement about naturals; the tables' contents at the group sizes, which satisfy the region's side
condition; the words the body loads; and the body's two conditions as comparisons of naturals. -/

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.WordCmp

variable {F : FTy → Type} [FloatOps F] {gs : IVec S4 32}

/-! ### The precondition -/

instance : Subsingleton (Shape.Idx (⟨0, ![]⟩ : Shape)) := ⟨fun a b => funext fun i => i.elim0⟩

/-- The precondition says that the group sizes partition the rows. -/
theorem parts_of_pre (x0 : FVec F Cert.Pre_partition.S65536x2816 .fp8e4m3) (x1 : FVec F Cert.Pre_partition.S65536x1 .f32)
    (x3 : FVec F Cert.Pre_partition.S4x2816x5632 .fp8e4m3) (x4 : FVec F Cert.Pre_partition.S4x5632 .f32)
    (h : Cert.Pre_partition.fn x0 x1 gs x3 x4 = fun _ => 1#1) : Parts gs := by
  have h0 := congrFun h (ValueIdx.ix0)
  unfold Cert.Pre_partition.fn at h0
  obtain ⟨h1, h2⟩ := IntOp.andi_eq_one.1 h0
  obtain ⟨h3, h4⟩ := IntOp.andi_eq_one.1 h1
  have hge : ∀ e : Fin 4, (gs (ix1 e)).toNat < 2 ^ 31 := fun e => by
    have := Host.reduce_andi_all _ _ _ _ _ h3 (ix1 e)
    have h' : IntOp.cmpi .sge (gs (ix1 e)) (0#32) = 1#1 := this
    rw [cmpi_sge_zero, ofBool_decide_eq_one_iff] at h'
    exact h'
  have hle : ∀ e : Fin 4, gN gs e ≤ 65536 := fun e => by
    have := Host.reduce_andi_all _ _ _ _ _ h4 (ix1 e)
    have h' : IntOp.cmpi .sle (gs (ix1 e)) (BitVec.ofNat 32 65536) = 1#1 := this
    have hb := hge e
    rw [gs_at (gs := gs) e] at h' hb
    have hg : gN gs e < 2 ^ 32 := by
      unfold gN; split <;> omega
    rw [BitVec.toNat_ofNat, Nat.mod_eq_of_lt hg] at hb
    exact (cmpi_sle_ofNat_eq_one_iff (w := 32) hb (by norm_num)).1 h'
  have hs := Routing.reduce_sum gs (gN gs) gs_at Cert.Pre_partition.Gen.reducesTo_S4_S_d0 Cert.Pre_partition.Gen.h_S_
  have hs' : IntOp.cmpi .eq (BitVec.ofNat 32 ((List.range 4).map (gN gs)).sum) (BitVec.ofNat 32 65536) = 1#1 := by
    rw [← hs]; exact h2
  have hh := sum_hi (gN gs) 3
  have b0 := hle 0; have b1 := hle 1; have b2 := hle 2; have b3 := hle 3
  have hx : WorkList.hi (gN gs) 3 ≤ 4 * 65536 := by
    rw [← hh]
    simp [List.range_succ] at b0 b1 b2 b3 ⊢
    omega
  rw [hh] at hs'
  rw [cmpi_eq_ofNat (by omega) (by norm_num), ofBool_decide_eq_one_iff] at hs'
  exact hs'

/-! ### The contents of the tables -/

/-- The tables' contents at the group sizes `gs`. -/
def pfG (gs : IVec S4 32) : pre0.Contents (Elt F) := fun
  | ⟨0, _⟩ => wTile gs
  | ⟨1, _⟩ => wEx gs
  | ⟨2, _⟩ => wStarts gs
  | ⟨3, _⟩ => wEnds gs
  | ⟨4, _⟩ => wN gs
  | ⟨_ + 5, h⟩ => absurd h (by simp)

theorem off1_eq : ∀ i : grid0.Coords, k0_off1 i 0 = (i 0).val := by decide
theorem off2_eq : ∀ i : grid0.Coords, k0_off2 i 0 = (i 0).val - 1 := by decide

/-- One word of a vector, at a one-word rectangle. -/
theorem at_unit {n : ℕ} (T : IVec ⟨1, ![n]⟩ 32) (off : Fin 1 → ℕ) (h : ∀ a, off a + S1.size a ≤ (⟨1, ![n]⟩ : Shape).size a)
    (h1 : (Rect.unit (s := ⟨1, ![n]⟩) off S1.size h).shape.numel = 1) (k : Fin n) (hk : off 0 = k.val) :
    T ((Rect.unit (s := ⟨1, ![n]⟩) off S1.size h).emb (Shape.Idx.first (h1.symm ▸ Nat.one_pos))) = T (ix1 k) := by
  congr 1
  funext a
  fin_cases a
  refine Fin.ext ?_
  show off 0 + _ = k.val
  rw [hk]
  simp [Shape.Idx.first]

theorem tile_word (hp : Parts gs) (i : grid0.Coords) :
    (pfG (F := F) gs).at 0 (Rect.unit (s := S131) (k0_off1 i) S1.size (k0_off1_inb i)) numel1_S1 = BitVec.ofNat 32 (WorkList.tile (gN gs) (i 0).val) :=
  (at_unit (wTile gs) (k0_off1 i) (k0_off1_inb i) numel1_S1 (i 0) (off1_eq i)).trans (wTile_at hp (i 0))

theorem ex_word (hp : Parts gs) (i : grid0.Coords) :
    (pfG (F := F) gs).at 1 (Rect.unit (s := S131) (k0_off1 i) S1.size (k0_off1_inb i)) numel1_S1 = BitVec.ofNat 32 (WorkList.ex (gN gs) (i 0).val) :=
  (at_unit (wEx gs) (k0_off1 i) (k0_off1_inb i) numel1_S1 (i 0) (off1_eq i)).trans (wEx_at hp (i 0))

theorem toNat_tile (hp : Parts gs) (t : ℕ) : (BitVec.ofNat 32 (WorkList.tile (gN gs) t)).toNat = WorkList.tile (gN gs) t := by
  rw [BitVec.toNat_ofNat, Nat.mod_eq_of_lt]; have := WorkList.tile_lt hp t; omega

theorem toNat_ex (hp : Parts gs) (t : ℕ) : (BitVec.ofNat 32 (WorkList.ex (gN gs) t)).toNat = WorkList.ex (gN gs) t := by
  rw [BitVec.toNat_ofNat, Nat.mod_eq_of_lt]; have := WorkList.ex_lt hp t; omega

theorem t0_eq (hp : Parts gs) (i : grid0.Coords) :
    cc0_transform_0 k0_off1_inb numel1_S1 (pfG (F := F) gs) i = ![WorkList.tile (gN gs) (i 0).val, 0] :=
  congrArg (fun v : BitVec 32 => ![v.toNat, 0]) (tile_word (F := F) hp i) |>.trans (by rw [toNat_tile hp])
theorem t1_eq (hp : Parts gs) (i : grid0.Coords) :
    cc0_transform_1 k0_off1_inb numel1_S1 (pfG (F := F) gs) i = ![WorkList.tile (gN gs) (i 0).val, 0] :=
  congrArg (fun v : BitVec 32 => ![v.toNat, 0]) (tile_word (F := F) hp i) |>.trans (by rw [toNat_tile hp])
theorem t4_eq (hp : Parts gs) (i : grid0.Coords) :
    cc0_transform_4 k0_off1_inb numel1_S1 (pfG (F := F) gs) i = ![WorkList.tile (gN gs) (i 0).val, 0] :=
  congrArg (fun v : BitVec 32 => ![v.toNat, 0]) (tile_word (F := F) hp i) |>.trans (by rw [toNat_tile hp])
theorem t2_eq (hp : Parts gs) (i : grid0.Coords) :
    cc0_transform_2 k0_off1_inb numel1_S1 (pfG (F := F) gs) i = ![WorkList.ex (gN gs) (i 0).val, 0, 0] :=
  congrArg (fun v : BitVec 32 => ![v.toNat, 0, 0]) (ex_word (F := F) hp i) |>.trans (by rw [toNat_ex hp])
theorem t3_eq (hp : Parts gs) (i : grid0.Coords) :
    cc0_transform_3 k0_off1_inb numel1_S1 (pfG (F := F) gs) i = ![WorkList.ex (gN gs) (i 0).val, 0, 0] :=
  congrArg (fun v : BitVec 32 => ![v.toNat, 0, 0]) (ex_word (F := F) hp i) |>.trans (by rw [toNat_ex hp])

/-- The tables' contents satisfy the region's side condition. -/
theorem ok_pfG (hp : Parts gs) : ok0 (F := F) (pfG gs) := by
  unfold ok0
  have hT := fun i : grid0.Coords => WorkList.tile_lt hp (i 0).val
  have hE := fun i : grid0.Coords => WorkList.ex_lt hp (i 0).val
  refine ⟨fun i => ?_, fun i => ?_, fun i => ?_, fun i => ?_, fun i => ?_⟩
  · have hb : ∀ a, (cc0_transform_0 k0_off1_inb numel1_S1 (pfG (F := F) gs) i a + 1) * S512x2816.size a ≤ S65536x2816.size a := by
      rw [t0_eq hp]; intro a; have := hT i
      fin_cases a
      · show (WorkList.tile (gN gs) (i 0).val + 1) * 512 ≤ 65536; omega
      · show (0 + 1) * 2816 ≤ 2816; omega
    exact ⟨hb, .inr (Affine.block_words_dvd (by decide) (by decide))⟩
  · have hb : ∀ a, (cc0_transform_1 k0_off1_inb numel1_S1 (pfG (F := F) gs) i a + 1) * S512x1.size a ≤ S65536x1.size a := by
      rw [t1_eq hp]; intro a; have := hT i
      fin_cases a
      · show (WorkList.tile (gN gs) (i 0).val + 1) * 512 ≤ 65536; omega
      · show (0 + 1) * 1 ≤ 1; omega
    exact ⟨hb, .inl rfl⟩
  · have hb : ∀ a, (cc0_transform_2 k0_off1_inb numel1_S1 (pfG (F := F) gs) i a + 1) * S1x2816x5632.size a ≤ S4x2816x5632.size a := by
      rw [t2_eq hp]; intro a; have := hE i
      fin_cases a
      · show (WorkList.ex (gN gs) (i 0).val + 1) * 1 ≤ 4; omega
      · show (0 + 1) * 2816 ≤ 2816; omega
      · show (0 + 1) * 5632 ≤ 5632; omega
    exact ⟨hb, .inr (Affine.block_words_dvd (by decide) (by decide))⟩
  · have hb : ∀ a, (cc0_transform_3 k0_off1_inb numel1_S1 (pfG (F := F) gs) i a + 1) * S1x1x5632.size a ≤ S4x1x5632.size a := by
      rw [t3_eq hp]; intro a; have := hE i
      fin_cases a
      · show (WorkList.ex (gN gs) (i 0).val + 1) * 1 ≤ 4; omega
      · show (0 + 1) * 1 ≤ 1; omega
      · show (0 + 1) * 5632 ≤ 5632; omega
    exact ⟨hb, .inl rfl⟩
  · have hb : ∀ a, (cc0_transform_4 k0_off1_inb numel1_S1 (pfG (F := F) gs) i a + 1) * S512x5632.size a ≤ S65536x5632.size a := by
      rw [t4_eq hp]; intro a; have := hT i
      fin_cases a
      · show (WorkList.tile (gN gs) (i 0).val + 1) * 512 ≤ 65536; omega
      · show (0 + 1) * 5632 ≤ 5632; omega
    exact ⟨hb, .inr (Affine.block_words_dvd (by decide) (by decide))⟩

/-- The admissible contents at group sizes that partition the rows. -/
def admG (hp : Parts gs) : (pcfg0 (F := F)).Adm := ⟨pfG gs, ok_pfG hp⟩

/-! ### The words the body loads -/

/-- A load of one word of a table held whole returns the table's word. -/
theorem rd_eq {n : ℕ} (arg : Memref sig .tc .smem ⟨1, ![n]⟩ .i32) (harg : arg.IsWhole) (T : Vec F ⟨1, ![n]⟩ .i32) (off : Fin 1 → ℕ)
    (h : ∀ a, off a + S1.size a ≤ (⟨1, ![n]⟩ : Shape).size a) (k : Fin n) (hk : off 0 = k.val) : rd arg harg T off h = T (ix1 k) := by
  unfold rd
  rw [harg.readAt_unread]
  exact at_unit T off h numel1_S1 k hk

theorem cond1_iff (i : grid0.Coords) {p k q : ℕ} (hp : p < 2 ^ 31) (hk : k < 2 ^ 31) (hq : q < 2 ^ 31) :
    k0_cond1 i (BitVec.ofNat 32 p) (BitVec.ofNat 32 k) (BitVec.ofNat 32 q) = 1#1 ↔ (i 0).val < k ∧ ¬ (0 < (i 0).val ∧ q = p) := by
  have hi : (i 0).val < 131 := (i 0).isLt
  unfold k0_cond1
  have a1 : Scalar.cmpi .slt (BitVec.ofNat 32 (i 0).val) (BitVec.ofNat 32 k) = BitVec.ofBool (decide ((i 0).val < k)) :=
    cmpi_slt_ofNat (w := 32) (by omega) hk
  have a2 : Scalar.cmpi .sgt (BitVec.ofNat 32 (i 0).val) (0#32) = BitVec.ofBool (decide (0 < (i 0).val)) :=
    cmpi_sgt_ofNat (w := 32) (b := 0) (by omega) (by omega)
  have a3 : Scalar.cmpi .eq (BitVec.ofNat 32 q) (BitVec.ofNat 32 p) = BitVec.ofBool (decide (q = p)) :=
    cmpi_eq_ofNat (w := 32) (by omega) (by omega)
  simp only [a1, a2, a3]
  by_cases h1 : (i 0).val < k <;> by_cases h2 : 0 < (i 0).val <;> by_cases h3 : q = p <;> simp only [h1, h2, h3] <;> decide

theorem cond2_iff (i : grid0.Coords) {p k q : ℕ} (hp : p < 2 ^ 31) (hk : k < 2 ^ 31) (hq : q < 2 ^ 31) :
    k0_cond2 i (BitVec.ofNat 32 p) (BitVec.ofNat 32 k) (BitVec.ofNat 32 q) = 1#1 ↔ (i 0).val < k ∧ 0 < (i 0).val ∧ q = p := by
  have hi : (i 0).val < 131 := (i 0).isLt
  unfold k0_cond2
  have a1 : Scalar.cmpi .slt (BitVec.ofNat 32 (i 0).val) (BitVec.ofNat 32 k) = BitVec.ofBool (decide ((i 0).val < k)) :=
    cmpi_slt_ofNat (w := 32) (by omega) hk
  have a2 : Scalar.cmpi .sgt (BitVec.ofNat 32 (i 0).val) (0#32) = BitVec.ofBool (decide (0 < (i 0).val)) :=
    cmpi_sgt_ofNat (w := 32) (b := 0) (by omega) (by omega)
  have a3 : Scalar.cmpi .eq (BitVec.ofNat 32 q) (BitVec.ofNat 32 p) = BitVec.ofBool (decide (q = p)) :=
    cmpi_eq_ofNat (w := 32) (by omega) (by omega)
  simp only [a1, a2, a3]
  by_cases h1 : (i 0).val < k <;> by_cases h2 : 0 < (i 0).val <;> by_cases h3 : q = p <;> simp only [h1, h2, h3] <;> decide

end Cert.KernelIdeal.Hand
-- ==== Proof.BodyAgain.lean ====
module

public import proofs.«01_k».proof.Proof.Gen.KernelIdeal.Launch
public import proofs.«01_k».proof.Proof.Gen.KernelIdeal.Skeleton
public import proofs.«01_k».proof.Proof.Body
public import Idealize.ShloMosaic.Lib.Tactic
public import Idealize.ShloMosaic.Lib.Pipeline.FrameBody
public import Idealize.ShloMosaic.Lib.Ring

/-! # The kernel's body on a step that revisits its tile, and on one past the work list -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (q : PosShare TreeShare)
    (arg1 : Memref sig .tc .smem S131 .i32) (harg1 : arg1.IsWhole) (arg2 : Memref sig .tc .smem S131 .i32) (harg2 : arg2.IsWhole)
    (arg3 : Memref sig .tc .smem S4 .i32) (harg3 : arg3.IsWhole) (arg4 : Memref sig .tc .smem S4 .i32) (harg4 : arg4.IsWhole)
    (arg5 : Memref sig .tc .smem S1 .i32) (harg5 : arg5.IsWhole)
    (arg6 : Memref sig .tc .vmem S512x2816 .fp8e4m3) (harg6 : arg6.IsWhole) (arg7 : Memref sig .tc .vmem S512x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S512x5632 .bf16) (harg10 : arg10.IsWhole)
    (T1 T2 : Vec F S131 .i32) (T3 T4 : Vec F S4 .i32) (T5 : Vec F S1 .i32)
    (x6 : Vec F S512x2816 .fp8e4m3) (x7 : Vec F S512x1 .f32) (x8 : Vec F S1x2816x5632 .fp8e4m3) (x9 : Vec F S1x1x5632 .f32)

set_option maxHeartbeats 4000000 in
/-- A step that revisits its tile puts the products on its expert's rows and keeps the rest. -/
theorem run_again
    (hchk : k0_chk1 i (rd arg1 harg1 T1 (k0_off1 i) (k0_off1_inb i)) (rd arg2 harg2 T2 (k0_off1 i) (k0_off1_inb i)) (rd arg5 harg5 T5 ![0] inb_S1_S1_0) (rd arg1 harg1 T1 (k0_off2 i) (k0_off2_inb i)))
    (h1 : ¬ k0_cond1 i (rd arg1 harg1 T1 (k0_off1 i) (k0_off1_inb i)) (rd arg5 harg5 T5 ![0] inb_S1_S1_0) (rd arg1 harg1 T1 (k0_off2 i) (k0_off2_inb i)) = 1#1)
    (h2 : k0_cond2 i (rd arg1 harg1 T1 (k0_off1 i) (k0_off1_inb i)) (rd arg5 harg5 T5 ![0] inb_S1_S1_0) (rd arg1 harg1 T1 (k0_off2 i) (k0_off2_inb i)) = 1#1)
    (d : Vec F S512x5632 .bf16) (E : Set ℕ) (K : PUnit → sProp 𝕄) :
    iprop((held c q arg1 arg2 arg3 arg4 arg5 arg6 arg7 arg8 arg9 arg10 T1 T2 T3 T4 T5 x6 x7 x8 x9 d) ∗ (((held c q arg1 arg2 arg3 arg4 arg5 arg6 arg7 arg8 arg9 arg10 T1 T2 T3 T4 T5 x6 x7 x8 x9 (selv (k0_pay15 (F := F) (rd arg1 harg1 T1 (k0_off1 i) (k0_off1_inb i)) (rd arg3 harg3 T3 (k0_off3 (rd arg2 harg2 T2 (k0_off1 i) (k0_off1_inb i))) (k0_off3_inb i (rd arg1 harg1 T1 (k0_off1 i) (k0_off1_inb i)) (rd arg2 harg2 T2 (k0_off1 i) (k0_off1_inb i)) (rd arg5 harg5 T5 ![0] inb_S1_S1_0) (rd arg1 harg1 T1 (k0_off2 i) (k0_off2_inb i)) hchk h2)) (rd arg4 harg4 T4 (k0_off3 (rd arg2 harg2 T2 (k0_off1 i) (k0_off1_inb i))) (k0_off3_inb i (rd arg1 harg1 T1 (k0_off1 i) (k0_off1_inb i)) (rd arg2 harg2 T2 (k0_off1 i) (k0_off1_inb i)) (rd arg5 harg5 T5 ![0] inb_S1_S1_0) (rd arg1 harg1 T1 (k0_off2 i) (k0_off2_inb i)) hchk h2))) x6 x7 x8 x9 d)) : sProp 𝕄) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
    simp only [cc0_grouped_fp8_matmul_eq_skeleton]; unfold cc0_grouped_fp8_matmul_skel
    simp only [k0_part6_eq_skeleton, k0_part7_eq_skeleton, k0_part8_eq_skeleton, k0_part9_eq_skeleton, k0_part10_eq_skeleton, k0_part11_eq_skeleton]
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hchk | exact h1 | exact h2)
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    iexists _; isplitr; swap; · iexact H10
    ipureintro
    refine funext fun y => View.read_writes_apply_of_pieces _ _ (selv (k0_pay15 (F := F) (rd arg1 harg1 T1 (k0_off1 i) (k0_off1_inb i)) (rd arg3 harg3 T3 (k0_off3 (rd arg2 harg2 T2 (k0_off1 i) (k0_off1_inb i))) (k0_off3_inb i (rd arg1 harg1 T1 (k0_off1 i) (k0_off1_inb i)) (rd arg2 harg2 T2 (k0_off1 i) (k0_off1_inb i)) (rd arg5 harg5 T5 ![0] inb_S1_S1_0) (rd arg1 harg1 T1 (k0_off2 i) (k0_off2_inb i)) hchk h2)) (rd arg4 harg4 T4 (k0_off3 (rd arg2 harg2 T2 (k0_off1 i) (k0_off1_inb i))) (k0_off3_inb i (rd arg1 harg1 T1 (k0_off1 i) (k0_off1_inb i)) (rd arg2 harg2 T2 (k0_off1 i) (k0_off1_inb i)) (rd arg5 harg5 T5 ![0] inb_S1_S1_0) (rd arg1 harg1 T1 (k0_off2 i) (k0_off2_inb i)) hchk h2))) x6 x7 x8 x9 d) _ ?_ y ?_
    · intro p hp x
      simp only [List.mem_cons, List.not_mem_nil, or_false] at hp
      rcases hp with rfl | rfl | rfl | rfl | rfl | rfl | rfl | rfl | rfl | rfl | rfl
      · exact piece_again arg6 harg6 arg7 harg7 arg8 harg8 arg9 harg9 arg10 harg10 x6 x7 x8 x9 d _ 10 _ _ _ _ (inbO 10) (inbO 10) x
      · exact piece_again arg6 harg6 arg7 harg7 arg8 harg8 arg9 harg9 arg10 harg10 x6 x7 x8 x9 d _ 9 _ _ _ _ (inbO 9) (inbO 9) x
      · exact piece_again arg6 harg6 arg7 harg7 arg8 harg8 arg9 harg9 arg10 harg10 x6 x7 x8 x9 d _ 8 _ _ _ _ (inbO 8) (inbO 8) x
      · exact piece_again arg6 harg6 arg7 harg7 arg8 harg8 arg9 harg9 arg10 harg10 x6 x7 x8 x9 d _ 7 _ _ _ _ (inbO 7) (inbO 7) x
      · exact piece_again arg6 harg6 arg7 harg7 arg8 harg8 arg9 harg9 arg10 harg10 x6 x7 x8 x9 d _ 6 _ _ _ _ (inbO 6) (inbO 6) x
      · exact piece_again arg6 harg6 arg7 harg7 arg8 harg8 arg9 harg9 arg10 harg10 x6 x7 x8 x9 d _ 5 _ _ _ _ (inbO 5) (inbO 5) x
      · exact piece_again arg6 harg6 arg7 harg7 arg8 harg8 arg9 harg9 arg10 harg10 x6 x7 x8 x9 d _ 4 _ _ _ _ (inbO 4) (inbO 4) x
      · exact piece_again arg6 harg6 arg7 harg7 arg8 harg8 arg9 harg9 arg10 harg10 x6 x7 x8 x9 d _ 3 _ _ _ _ (inbO 3) (inbO 3) x
      · exact piece_again arg6 harg6 arg7 harg7 arg8 harg8 arg9 harg9 arg10 harg10 x6 x7 x8 x9 d _ 2 _ _ _ _ (inbO 2) (inbO 2) x
      · exact piece_again arg6 harg6 arg7 harg7 arg8 harg8 arg9 harg9 arg10 harg10 x6 x7 x8 x9 d _ 1 _ _ _ _ (inbO 1) (inbO 1) x
      · exact piece_again arg6 harg6 arg7 harg7 arg8 harg8 arg9 harg9 arg10 harg10 x6 x7 x8 x9 d _ 0 _ _ _ _ (inbO 0) (inbO 0) x
    · exact View.cover_of_tiledL (s := S512x5632) _ S512x512.size (by sl_kernel_rfl) y

set_option maxHeartbeats 4000000 in
/-- A step past the work list stores nothing. -/
theorem run_idle
    (hchk : k0_chk1 i (rd arg1 harg1 T1 (k0_off1 i) (k0_off1_inb i)) (rd arg2 harg2 T2 (k0_off1 i) (k0_off1_inb i)) (rd arg5 harg5 T5 ![0] inb_S1_S1_0) (rd arg1 harg1 T1 (k0_off2 i) (k0_off2_inb i)))
    (h1 : ¬ k0_cond1 i (rd arg1 harg1 T1 (k0_off1 i) (k0_off1_inb i)) (rd arg5 harg5 T5 ![0] inb_S1_S1_0) (rd arg1 harg1 T1 (k0_off2 i) (k0_off2_inb i)) = 1#1)
    (h2 : ¬ k0_cond2 i (rd arg1 harg1 T1 (k0_off1 i) (k0_off1_inb i)) (rd arg5 harg5 T5 ![0] inb_S1_S1_0) (rd arg1 harg1 T1 (k0_off2 i) (k0_off2_inb i)) = 1#1)
    (d : Vec F S512x5632 .bf16) (E : Set ℕ) (K : PUnit → sProp 𝕄) :
    iprop((held c q arg1 arg2 arg3 arg4 arg5 arg6 arg7 arg8 arg9 arg10 T1 T2 T3 T4 T5 x6 x7 x8 x9 d) ∗ (((held c q arg1 arg2 arg3 arg4 arg5 arg6 arg7 arg8 arg9 arg10 T1 T2 T3 T4 T5 x6 x7 x8 x9 d) : sProp 𝕄) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
    simp only [cc0_grouped_fp8_matmul_eq_skeleton]; unfold cc0_grouped_fp8_matmul_skel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hchk | exact h1 | exact h2)
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    iexists _; isplitr; · ipureintro; exact harg10.read_unread _
    iexact H10

end

end Cert.KernelIdeal.Hand

end
-- ==== Proof.Step.lean ====
module

public import proofs.«01_k».proof.Proof.Tables
public import proofs.«01_k».proof.Proof.BodyAgain

/-! # One grid step at the tables' contents

What a step leaves in the output block, as a function of the step, the input blocks and the block's contents before: a first
visit writes the tile's products whole, a revisit writes them on the rows of the step's expert, a step past the work list
writes nothing. The three runs of the body together: it leaves that. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Step `t` is within the work list. -/
abbrev Works (gs : IVec S4 32) (t : ℕ) : Prop := t < WorkList.n (gN gs)
/-- Step `t` is on the tile of the step before. -/
abbrev Again (gs : IVec S4 32) (t : ℕ) : Prop := 0 < t ∧ WorkList.tile (gN gs) (t - 1) = WorkList.tile (gN gs) t

/-- The rows of step `t`'s tile that belong to its expert. -/
def maskAt (F : FTy → Type) [FloatOps F] (gs : IVec S4 32) (t : ℕ) : IVec S512x1 1 :=
  k0_pay15 (F := F) (BitVec.ofNat 32 (WorkList.tile (gN gs) t)) (BitVec.ofNat 32 (WorkList.lo (gN gs) (WorkList.ex (gN gs) t)))
    (BitVec.ofNat 32 (WorkList.hi (gN gs) (WorkList.ex (gN gs) t)))

/-- What step `t` leaves in the output block, from the input blocks and what the block held. -/
def stepOut (gs : IVec S4 32) (t : ℕ) (x6 : Vec F S512x2816 .fp8e4m3) (x7 : Vec F S512x1 .f32) (x8 : Vec F S1x2816x5632 .fp8e4m3)
    (x9 : Vec F S1x1x5632 .f32) (d : Vec F S512x5632 .bf16) : Vec F S512x5632 .bf16 :=
  if Works gs t then if Again gs t then selv (maskAt F gs t) x6 x7 x8 x9 d else yv x6 x7 x8 x9 else d

theorem off3_eq : ∀ e : Fin 4, k0_off3 (BitVec.ofNat 32 e.val) 0 = e.val := by decide

section
variable {gs : IVec S4 32} (hp : Parts gs) (c : Dev nD) (i : grid0.Coords) (q : PosShare TreeShare)
    (arg1 : Memref sig .tc .smem S131 .i32) (harg1 : arg1.IsWhole) (arg2 : Memref sig .tc .smem S131 .i32) (harg2 : arg2.IsWhole)
    (arg3 : Memref sig .tc .smem S4 .i32) (harg3 : arg3.IsWhole) (arg4 : Memref sig .tc .smem S4 .i32) (harg4 : arg4.IsWhole)
    (arg5 : Memref sig .tc .smem S1 .i32) (harg5 : arg5.IsWhole)
    (arg6 : Memref sig .tc .vmem S512x2816 .fp8e4m3) (harg6 : arg6.IsWhole) (arg7 : Memref sig .tc .vmem S512x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S512x5632 .bf16) (harg10 : arg10.IsWhole)
    (x6 : Vec F S512x2816 .fp8e4m3) (x7 : Vec F S512x1 .f32) (x8 : Vec F S1x2816x5632 .fp8e4m3) (x9 : Vec F S1x1x5632 .f32)

include hp in
theorem rd1 : rd (F := F) arg1 harg1 (wTile gs) (k0_off1 i) (k0_off1_inb i) = BitVec.ofNat 32 (WorkList.tile (gN gs) (i 0).val) :=
  (rd_eq (F := F) arg1 harg1 (wTile gs) _ _ (i 0) (off1_eq i)).trans (wTile_at hp (i 0))

include hp in
theorem rd2 : rd (F := F) arg2 harg2 (wEx gs) (k0_off1 i) (k0_off1_inb i) = BitVec.ofNat 32 (WorkList.ex (gN gs) (i 0).val) :=
  (rd_eq (F := F) arg2 harg2 (wEx gs) _ _ (i 0) (off1_eq i)).trans (wEx_at hp (i 0))

include hp in
theorem rd5 : rd (F := F) arg5 harg5 (wN gs) ![0] inb_S1_S1_0 = BitVec.ofNat 32 (WorkList.n (gN gs)) :=
  (rd_eq (F := F) arg5 harg5 (wN gs) ![0] inb_S1_S1_0 0 rfl).trans (wN_at hp)

include hp in
theorem rd1' : rd (F := F) arg1 harg1 (wTile gs) (k0_off2 i) (k0_off2_inb i) = BitVec.ofNat 32 (WorkList.tile (gN gs) ((i 0).val - 1)) :=
  (rd_eq (F := F) arg1 harg1 (wTile gs) _ _ (⟨(i 0).val - 1, Nat.lt_of_le_of_lt (Nat.sub_le _ _) (i 0).isLt⟩ : Fin 131) (off2_eq i)).trans (wTile_at hp _)

include hp in
theorem c1_iff : k0_cond1 i (BitVec.ofNat 32 (WorkList.tile (gN gs) (i 0).val)) (BitVec.ofNat 32 (WorkList.n (gN gs)))
    (BitVec.ofNat 32 (WorkList.tile (gN gs) ((i 0).val - 1))) = 1#1 ↔ Works gs (i 0).val ∧ ¬ Again gs (i 0).val :=
  cond1_iff i (by have := WorkList.tile_lt hp (i 0).val; omega) (by have := WorkList.n_le hp; omega) (by have := WorkList.tile_lt hp ((i 0).val - 1); omega)

include hp in
theorem c2_iff : k0_cond2 i (BitVec.ofNat 32 (WorkList.tile (gN gs) (i 0).val)) (BitVec.ofNat 32 (WorkList.n (gN gs)))
    (BitVec.ofNat 32 (WorkList.tile (gN gs) ((i 0).val - 1))) = 1#1 ↔ Works gs (i 0).val ∧ Again gs (i 0).val :=
  cond2_iff i (by have := WorkList.tile_lt hp (i 0).val; omega) (by have := WorkList.n_le hp; omega) (by have := WorkList.tile_lt hp ((i 0).val - 1); omega)

include hp in
/-- The body at a grid step, the tables at their contents: it leaves what `stepOut` says and everything else as it was. -/
theorem run_step (d : Vec F S512x5632 .bf16) (E : Set ℕ) (K : PUnit → sProp 𝕄) :
    iprop((held c q arg1 arg2 arg3 arg4 arg5 arg6 arg7 arg8 arg9 arg10 (wTile gs) (wEx gs) (wStarts gs) (wEnds gs) (wN gs) x6 x7 x8 x9 d)
        ∗ (((held c q arg1 arg2 arg3 arg4 arg5 arg6 arg7 arg8 arg9 arg10 (wTile gs) (wEx gs) (wStarts gs) (wEnds gs) (wN gs) x6 x7 x8 x9
            (stepOut gs (i 0).val x6 x7 x8 x9 d)) : sProp 𝕄) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
  have e1 := rd1 (F := F) hp i arg1 harg1
  have e2 := rd2 (F := F) hp i arg2 harg2
  have e3 := rd5 (F := F) hp arg5 harg5
  have e4 := rd1' (F := F) hp i arg1 harg1
  have hoff := off3_eq ⟨_, WorkList.ex_lt hp (i 0).val⟩
  have hchk : k0_chk1 i (rd (F := F) arg1 harg1 (wTile gs) (k0_off1 i) (k0_off1_inb i)) (rd (F := F) arg2 harg2 (wEx gs) (k0_off1 i) (k0_off1_inb i))
      (rd (F := F) arg5 harg5 (wN gs) ![0] inb_S1_S1_0) (rd (F := F) arg1 harg1 (wTile gs) (k0_off2 i) (k0_off2_inb i)) := by
    intro _ a
    have := WorkList.ex_lt hp (i 0).val
    fin_cases a
    rw [e2]
    show k0_off3 _ 0 + 1 ≤ 4
    have hoff' : k0_off3 (BitVec.ofNat 32 (WorkList.ex (gN gs) (i 0).val)) 0 = WorkList.ex (gN gs) (i 0).val := hoff
    omega
  have h1 := c1_iff hp i
  have h2 := c2_iff hp i
  rw [← e1, ← e3, ← e4] at h1 h2
  by_cases hw : Works gs (i 0).val
  · by_cases ha : Again gs (i 0).val
    · have hc2 := h2.2 ⟨hw, ha⟩
      have hs : stepOut gs (i 0).val x6 x7 x8 x9 d = selv (k0_pay15 (F := F) (rd (F := F) arg1 harg1 (wTile gs) (k0_off1 i) (k0_off1_inb i))
          (rd (F := F) arg3 harg3 (wStarts gs) (k0_off3 (rd (F := F) arg2 harg2 (wEx gs) (k0_off1 i) (k0_off1_inb i))) (k0_off3_inb i _ _ _ _ hchk hc2))
          (rd (F := F) arg4 harg4 (wEnds gs) (k0_off3 (rd (F := F) arg2 harg2 (wEx gs) (k0_off1 i) (k0_off1_inb i))) (k0_off3_inb i _ _ _ _ hchk hc2))) x6 x7 x8 x9 d := by
        have o : k0_off3 (rd (F := F) arg2 harg2 (wEx gs) (k0_off1 i) (k0_off1_inb i)) 0 = (⟨_, WorkList.ex_lt hp (i 0).val⟩ : Fin 4).val := by
          rw [e2]; exact hoff
        rw [rd_eq (F := F) arg3 harg3 (wStarts gs) _ _ (⟨_, WorkList.ex_lt hp (i 0).val⟩ : Fin 4) o,
          rd_eq (F := F) arg4 harg4 (wEnds gs) _ _ (⟨_, WorkList.ex_lt hp (i 0).val⟩ : Fin 4) o, wStarts_at, wEnds_at, e1]
        unfold stepOut
        rw [if_pos hw, if_pos ha]
        rfl
      rw [hs]
      exact run_again c i q arg1 harg1 arg2 harg2 arg3 harg3 arg4 harg4 arg5 harg5 arg6 harg6 arg7 harg7 arg8 harg8 arg9 harg9 arg10 harg10
        (wTile gs) (wEx gs) (wStarts gs) (wEnds gs) (wN gs) x6 x7 x8 x9 hchk (fun h => (h1.1 h).2 ha) hc2 d E K
    · have hs : stepOut gs (i 0).val x6 x7 x8 x9 d = yv x6 x7 x8 x9 := by
        unfold stepOut; rw [if_pos hw, if_neg ha]
      rw [hs]
      exact run_first c i q arg1 harg1 arg2 harg2 arg3 harg3 arg4 harg4 arg5 harg5 arg6 harg6 arg7 harg7 arg8 harg8 arg9 harg9 arg10 harg10
        (wTile gs) (wEx gs) (wStarts gs) (wEnds gs) (wN gs) x6 x7 x8 x9 hchk (h1.2 ⟨hw, ha⟩) (fun h => ha (h2.1 h).2) d E K
  · have hs : stepOut gs (i 0).val x6 x7 x8 x9 d = d := by unfold stepOut; rw [if_neg hw]
    rw [hs]
    exact run_idle c i q arg1 harg1 arg2 harg2 arg3 harg3 arg4 harg4 arg5 harg5 arg6 harg6 arg7 harg7 arg8 harg8 arg9 harg9 arg10 harg10
      (wTile gs) (wEx gs) (wStarts gs) (wEnds gs) (wN gs) x6 x7 x8 x9 hchk (fun h => hw (h1.1 h).1) (fun h => hw (h2.1 h).1) d E K

end

end Cert.KernelIdeal.Hand
-- ==== Proof.Data.lean ====
module

public import proofs.«01_k».proof.Proof.Step
public import Idealize.ShloMosaic.Lib.Pipeline.Frame
public import Idealize.ShloMosaic.Lib.Pipeline.TableIdle

/-! # The pipeline's proof data

What every window's staging buffer holds at each grid step: an input its block, the output the blocks of the steps before
carried through `stepOut`. The body obligation at a step follows from `run_step`. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers of core `c` as the pallas_call finds them: after the host operations. -/
abbrev V (c : Dev nD) (b : DevRef τ sig) : b.ty.Contents (Elt F) := StableHlo.after (stretches (F := F)).flatten (fun b => m (c, b)) b

variable {gs : IVec S4 32} (hp : Parts gs)

/-- The tables' contents, for the one pallas_call. -/
abbrev adm : (p : Fin 1) → (pcfgs (F := F) p).Adm := fun _ => admG hp
/-- The pipeline at the tables' contents. -/
abbrev cfgG : Cfg sig Λ₀ := cfg0 (F := F) (admG hp)

/-- A grid step's coordinate is the step. -/
theorem coords_val (t : Fin (cfgG (F := F) hp).N) : ((cfgG (F := F) hp).grid.coords t 0).val = t.val := by
  show t.val / 1 % 131 = t.val
  have : t.val < 131 := t.isLt
  omega

theorem N_eq : (cfgG (F := F) hp).N = 131 := rfl
theorem lt_N {n : ℕ} (h : n < 131) : n < (cfgG (F := F) hp).N := (N_eq (F := F) hp).symm ▸ h
theorem lt_of_N {n : ℕ} (h : n < (cfgG (F := F) hp).N) : n < 131 := N_eq (F := F) hp ▸ h

/-- Window `w`'s block at step `t`. -/
def iblk (c : Dev nD) (w : Fin (cfgG (F := F) hp).W) (t : Fin (cfgG (F := F) hp).N) :
    (((cfgG (F := F) hp).win w).xblock ((cfgG (F := F) hp).grid.coords t)).Idx → Elt F ((cfgG (F := F) hp).win w).elt :=
  (((cfgG (F := F) hp).win w).blk t).view.read (Elt F) (V m c (Pipeline.arrRef spec0 w))

/-- The input blocks of step `t`, at the shapes the body takes them. -/
def bx (c : Dev nD) (t : Fin 131) : Vec F S512x2816 .fp8e4m3 := iblk m hp c 0 ⟨t.val, lt_N hp t.isLt⟩
def bxs (c : Dev nD) (t : Fin 131) : Vec F S512x1 .f32 := iblk m hp c 1 ⟨t.val, lt_N hp t.isLt⟩
def bw (c : Dev nD) (t : Fin 131) : Vec F S1x2816x5632 .fp8e4m3 := iblk m hp c 2 ⟨t.val, lt_N hp t.isLt⟩
def bws (c : Dev nD) (t : Fin 131) : Vec F S1x1x5632 .f32 := iblk m hp c 3 ⟨t.val, lt_N hp t.isLt⟩

/-- What step `t` leaves in the output block that held `d`. -/
def stepAt (c : Dev nD) (t : Fin 131) (d : Vec F S512x5632 .bf16) : Vec F S512x5632 .bf16 :=
  stepOut gs t.val (bx m hp c t) (bxs m hp c t) (bw m hp c t) (bws m hp c t) d

/-- What the output block holds after step `t`. -/
def outAt (c : Dev nD) : ℕ → Vec F S512x5632 .bf16
  | 0 => yv (bx m hp c 0) (bxs m hp c 0) (bw m hp c 0) (bws m hp c 0)
  | t + 1 => if h : t + 1 < 131 then stepAt m hp c ⟨t + 1, h⟩ (outAt c t) else outAt c t

include hp in
theorem works_zero : Works gs 0 := WorkList.n_pos hp

include hp in
/-- A step past the work list stays on the tile of the step before. -/
theorem again_of_past {t : ℕ} (h : ¬ Works gs t) : Again gs t := by
  have hn := WorkList.n_pos hp
  have ht : WorkList.n (gN gs) ≤ t := Nat.le_of_not_lt h
  refine ⟨by omega, ?_⟩
  have h1 := (WorkList.past (g := gN gs) t (by omega)).2
  have h2 := (WorkList.past (g := gN gs) (t - 1) (by omega)).2
  rw [h1, h2]

/-- At a first visit the block's earlier contents do not matter. -/
theorem stepAt_first (c : Dev nD) (t : Fin 131) (h : ¬ Again gs t.val) (d d' : Vec F S512x5632 .bf16) : stepAt m hp c t d = stepAt m hp c t d' := by
  have hw : Works gs t.val := by by_contra hw; exact h (again_of_past hp hw)
  unfold stepAt stepOut
  rw [if_pos hw, if_pos hw, if_neg h, if_neg h]

theorem stepAt_past (c : Dev nD) (t : Fin 131) (h : ¬ Works gs t.val) (d : Vec F S512x5632 .bf16) : stepAt m hp c t d = d := by
  unfold stepAt stepOut; rw [if_neg h]

/-- `outAt` is a step from the block's contents before it: from `outAt` of the step before on a revisited tile, from anything
    on a tile first visited. -/
theorem outAt_step (c : Dev nD) (t : Fin 131) (d : Vec F S512x5632 .bf16) (h : Again gs t.val → d = outAt m hp c (t.val - 1)) :
    stepAt m hp c t d = outAt m hp c t.val := by
  obtain ⟨t, ht⟩ := t
  cases t with
  | zero =>
    show stepOut gs 0 _ _ _ _ d = _
    unfold stepOut
    rw [if_pos (works_zero hp), if_neg (fun h : Again gs 0 => absurd h.1 (Nat.lt_irrefl 0))]
    rfl
  | succ t =>
    show _ = if h : t + 1 < 131 then stepAt m hp c ⟨t + 1, h⟩ (outAt m hp c t) else outAt m hp c t
    rw [dif_pos ht]
    by_cases ha : Again gs (t + 1)
    · rw [h ha]; rfl
    · exact stepAt_first m hp c _ ha _ _

/-! ## The proof data -/

/-- The proof data: every array as the region finds it, each input's buffer at its block, the output's at `outAt`; the tables
    stay with the body; nothing owed. -/
def dats (p : Fin 1) (c : Dev nD) : Dat τ (Elt F) Unit ℕ (UR sig nD τ) ℕ (Pipeline.pin (pcfgs (F := F)) (adm hp) p) c where
  A w := V m c (Pipeline.arrRef spec0 w)
  after w t := match w with
    | ⟨0, _⟩ => iblk m hp c 0 t
    | ⟨1, _⟩ => iblk m hp c 1 t
    | ⟨2, _⟩ => iblk m hp c 2 t
    | ⟨3, _⟩ => iblk m hp c 3 t
    | ⟨4, _⟩ => outAt m hp c t.val
  Φ _ := iprop(Pipeline.ΦA spec0 c ∗ Pipeline.ΦT pre0 (pfG gs) c)
  q _ := fullShare
  owed _ := 0

theorem A_eq (c : Dev nD) (w : Fin 5) : (dats m hp 0 c).A w = V m c (Pipeline.arrRef spec0 w) := by
  dsimp only [dats]

theorem after0 (c : Dev nD) (t : Fin (cfgG (F := F) hp).N) : (dats m hp 0 c).after (0 : Fin 5) t = iblk m hp c 0 t := by dsimp only [dats]
theorem after1 (c : Dev nD) (t : Fin (cfgG (F := F) hp).N) : (dats m hp 0 c).after (1 : Fin 5) t = iblk m hp c 1 t := by dsimp only [dats]
theorem after2 (c : Dev nD) (t : Fin (cfgG (F := F) hp).N) : (dats m hp 0 c).after (2 : Fin 5) t = iblk m hp c 2 t := by dsimp only [dats]
theorem after3 (c : Dev nD) (t : Fin (cfgG (F := F) hp).N) : (dats m hp 0 c).after (3 : Fin 5) t = iblk m hp c 3 t := by dsimp only [dats]
theorem after4 (c : Dev nD) (t : Fin (cfgG (F := F) hp).N) : (dats m hp 0 c).after (4 : Fin 5) t = outAt m hp c t.val := by dsimp only [dats]

theorem before0 (c : Dev nD) (t : Fin (cfgG (F := F) hp).N) (d) : (dats m hp 0 c).before (0 : Fin 5) t d = iblk m hp c 0 t :=
  ((dats m hp 0 c).before_in_eq_fetched (0 : Fin 5) rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin (cfgG (F := F) hp).N) (d) : (dats m hp 0 c).before (1 : Fin 5) t d = iblk m hp c 1 t :=
  ((dats m hp 0 c).before_in_eq_fetched (1 : Fin 5) rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin (cfgG (F := F) hp).N) (d) : (dats m hp 0 c).before (2 : Fin 5) t d = iblk m hp c 2 t :=
  ((dats m hp 0 c).before_in_eq_fetched (2 : Fin 5) rfl (fun _ => rfl) (fun _ _ _ => rfl)
    (fun t => by rw [after2]; unfold Dat.blockOf iblk; rw [A_eq]; try rfl) t d).trans (by unfold Dat.fetched Dat.blockOf iblk; rw [A_eq]; try rfl)
theorem before3 (c : Dev nD) (t : Fin (cfgG (F := F) hp).N) (d) : (dats m hp 0 c).before (3 : Fin 5) t d = iblk m hp c 3 t :=
  ((dats m hp 0 c).before_in_eq_fetched (3 : Fin 5) rfl (fun _ => rfl) (fun _ _ _ => rfl)
    (fun t => by rw [after3]; unfold Dat.blockOf iblk; rw [A_eq]; try rfl) t d).trans (by unfold Dat.fetched Dat.blockOf iblk; rw [A_eq]; try rfl)

/-! ## The output window -/

theorem atD_tile {off : Fin 1 → ℕ} (k : Fin 131) (hk : off 0 = k.val) : (pfG (F := F) gs).atD 0 off = wTile gs (ix1 k) := by
  have hb : ∀ a, off a + 1 ≤ (⟨1, ![131]⟩ : Shape).size a := by
    intro a; fin_cases a; show off 0 + 1 ≤ 131; have := k.isLt; omega
  refine (dif_pos hb).trans ?_
  show wTile gs _ = _
  congr 1
  funext a; fin_cases a; exact Fin.ext hk

theorem atD_n {off : Fin 1 → ℕ} (hk : off 0 = 0) : (pfG (F := F) gs).atD 4 off = wN gs (ix1 0) := by
  have hb : ∀ a, off a + 1 ≤ (⟨1, ![1]⟩ : Shape).size a := by
    intro a; fin_cases a; show off 0 + 1 ≤ 1; omega
  refine (dif_pos hb).trans ?_
  show wN gs _ = _
  congr 1
  funext a; fin_cases a; exact Fin.ext hk

theorem idle_def (i : grid0.Coords) : (cfgG (F := F) hp).idle (4 : Fin 5) i =
    (!(k0_cond1 i ((pfG (F := F) gs).atD 0 (k0_off1 i)) ((pfG (F := F) gs).atD 4 ![0]) ((pfG (F := F) gs).atD 0 (k0_off2 i)) == 1#1)
    && !(k0_cond2 i ((pfG (F := F) gs).atD 0 (k0_off1 i)) ((pfG (F := F) gs).atD 4 ![0]) ((pfG (F := F) gs).atD 0 (k0_off2 i)) == 1#1)) := rfl

theorem idle_words (P Q : Prop) (x y : BitVec 1) (h1 : x = 1#1 ↔ P ∧ ¬ Q) (h2 : y = 1#1 ↔ P ∧ Q) :
    (!(x == 1#1) && !(y == 1#1)) = true ↔ ¬ P := by
  simp only [Bool.and_eq_true, Bool.not_eq_true', beq_eq_false_iff_ne, ne_eq, h1, h2]
  tauto

include hp in
theorem idle_at (i : grid0.Coords) : (cfgG (F := F) hp).idle (4 : Fin 5) i = true ↔ ¬ Works gs (i 0).val := by
  have a1 : (pfG (F := F) gs).atD 0 (k0_off1 i) = BitVec.ofNat 32 (WorkList.tile (gN gs) (i 0).val) :=
    (atD_tile (F := F) (i 0) (off1_eq i)).trans (wTile_at hp (i 0))
  have a2 : (pfG (F := F) gs).atD 0 (k0_off2 i) = BitVec.ofNat 32 (WorkList.tile (gN gs) ((i 0).val - 1)) :=
    (atD_tile (F := F) ⟨(i 0).val - 1, Nat.lt_of_le_of_lt (Nat.sub_le _ _) (i 0).isLt⟩ (off2_eq i)).trans (wTile_at hp _)
  have a3 : (pfG (F := F) gs).atD 4 ![0] = BitVec.ofNat 32 (WorkList.n (gN gs)) := (atD_n (F := F) rfl).trans (wN_at hp)
  rw [idle_def, a1, a2, a3]
  exact idle_words _ _ _ _ (c1_iff hp i) (c2_iff hp i)

/-- The body stores nothing exactly on the steps past the work list. -/
theorem idle_iff (t : Fin (cfgG (F := F) hp).N) :
    (cfgG (F := F) hp).idle (4 : Fin 5) ((cfgG (F := F) hp).grid.coords t) = true ↔ ¬ Works gs t.val := by
  refine (idle_at (F := F) hp ((cfgG (F := F) hp).grid.coords t)).trans ?_
  rw [coords_val]

theorem index4 (t : Fin (cfgG (F := F) hp).N) : ((cfgG (F := F) hp).win (4 : Fin 5)).index t = ![WorkList.tile (gN gs) t.val, 0] := by
  have h := t4_eq (F := F) hp ((cfgG (F := F) hp).grid.coords t)
  rw [coords_val] at h
  exact h

/-- A step whose next step stays on the tile writes nothing back. -/
theorem flush_same (n : ℕ) (hn : n < (cfgG (F := F) hp).N) (h1 : n + 1 < 131) (h : Again gs (n + 1)) :
    ((cfgG (F := F) hp).win (4 : Fin 5)).flush ⟨n, hn⟩ = false := by
  have hi : ((cfgG (F := F) hp).win (4 : Fin 5)).index ⟨n + 1, lt_N hp h1⟩ = ((cfgG (F := F) hp).win (4 : Fin 5)).index ⟨n, hn⟩ := by
    rw [index4, index4]
    have := h.2
    rw [Nat.add_sub_cancel] at this
    show ![WorkList.tile (gN gs) (n + 1), 0] = ![WorkList.tile (gN gs) n, 0]
    rw [this]
  rw [Pipeline.Window.flush_eq_flushF]
  unfold Pipeline.Window.flushF
  rw [Bool.and_eq_false_iff]
  right
  rw [Bool.or_eq_false_iff]
  constructor
  · rw [decide_eq_false_iff_not]
    show ¬ n + 1 = 131
    omega
  · rw [decide_eq_false_iff_not]
    rintro ⟨_, a, ha⟩
    exact ha (congrFun hi a)

/-- On a revisited tile the output's buffer is not fresh. -/
theorem fresh_again : ∀ (n : ℕ), n < 131 → Again gs n → (cfgG (F := F) hp).fresh (4 : Fin 5) n = false
  | 0, _, h => absurd h.1 (Nat.lt_irrefl 0)
  | n + 1, hn, h => by
    rw [Pipeline.Cfg.fresh_succ (cfgG (F := F) hp) (4 : Fin 5) n (lt_N hp (Nat.lt_of_succ_lt hn)), flush_same hp n (lt_N hp (Nat.lt_of_succ_lt hn)) hn h, Bool.false_or]
    by_cases hw : Works gs n
    · have : (cfgG (F := F) hp).idle (4 : Fin 5) ((cfgG (F := F) hp).grid.coords ⟨n, lt_N hp (Nat.lt_of_succ_lt hn)⟩) = false := by
        rw [Bool.eq_false_iff]; intro hi; exact (idle_iff hp _).1 hi hw
      rw [this, Bool.false_and]
    · rw [fresh_again n (Nat.lt_of_succ_lt hn) (again_of_past hp hw), Bool.and_false]

/-- On a revisited tile the output's buffer holds what the step before left. -/
theorem before4 (c : Dev nD) (t : Fin (cfgG (F := F) hp).N) (d) (h : Again gs t.val) :
    (dats m hp 0 c).before (4 : Fin 5) t d = outAt m hp c (t.val - 1) := by
  have hc : ∀ (t : Fin (cfgG (F := F) hp).N) (_ : t.val ≠ 0), (cfgG (F := F) hp).idle (4 : Fin 5) ((cfgG (F := F) hp).grid.coords t) = true →
      (cfgG (F := F) hp).fresh (4 : Fin 5) t.val = false →
      (dats m hp 0 c).after (4 : Fin 5) t = (dats m hp 0 c).after (4 : Fin 5) ⟨t.val - 1, Nat.lt_of_le_of_lt (Nat.sub_le _ _) t.isLt⟩ := by
    intro t ht hi _
    rw [after4, after4]
    have hw := (idle_iff hp t).1 hi
    have e := outAt_step m hp c ⟨t.val, lt_of_N hp t.isLt⟩ (outAt m hp c (t.val - 1)) (fun _ => rfl)
    rw [stepAt_past m hp c ⟨t.val, lt_of_N hp t.isLt⟩ hw] at e
    exact e.symm
  rw [(dats m hp 0 c).before_out_traj (4 : Fin 5) rfl (fun _ _ => rfl) hc t.val t rfl d]
  have hf := fresh_again (F := F) hp t.val (lt_of_N hp t.isLt) h
  exact (if_neg (by rw [hf]; exact Bool.false_ne_true)).trans (after4 m hp c _)

end Cert.KernelIdeal.Hand
-- ==== Proof.Run.lean ====
module

public import proofs.«01_k».proof.Proof.Data

/-! # The kernel's run

The body obligation at every grid step, the launch, and what every final state holds. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable {gs : IVec S4 32} (hp : Parts gs)

/-- The tables as the body takes them, and as the pipeline keeps them. -/
theorem tables_open (c : Dev nD) : (Pipeline.ΦT pre0 (pfG (F := F) gs) c : sProp 𝕄)
    = iprop(owns (c : Thread nD τ) (Memref.whole main_v42) fullShare.right (wTile gs) ∗ owns (c : Thread nD τ) (Memref.whole main_v26) fullShare.right (wEx gs)
      ∗ owns (c : Thread nD τ) (Memref.whole main_v1) fullShare.right (wStarts gs) ∗ owns (c : Thread nD τ) (Memref.whole main_v0) fullShare.right (wEnds gs)
      ∗ owns (c : Thread nD τ) (Memref.whole main_v43) fullShare.right (wN gs)) := by
  show Pipeline.prefHeld pre0 c (fun _ => fullShare.right) (pfG (F := F) gs) = _
  unfold Pipeline.prefHeld
  rw [owns_whole, owns_whole, owns_whole, owns_whole, owns_whole]
  exact bigSep_W0 _

/-- Each window's staging buffer at step `t`, and that it is a whole buffer. -/
abbrev ms0 (t : Fin (cfgG (F := F) hp).N) : Memref sig .tc .vmem S512x2816 .fp8e4m3 := spec0_0.stage ((cfgG (F := F) hp).slots t (0 : Fin 5))
abbrev ms1 (t : Fin (cfgG (F := F) hp).N) : Memref sig .tc .vmem S512x1 .f32 := spec0_1.stage ((cfgG (F := F) hp).slots t (1 : Fin 5))
abbrev ms2 (t : Fin (cfgG (F := F) hp).N) : Memref sig .tc .vmem S1x2816x5632 .fp8e4m3 := spec0_2.stage ((cfgG (F := F) hp).slots t (2 : Fin 5))
abbrev ms3 (t : Fin (cfgG (F := F) hp).N) : Memref sig .tc .vmem S1x1x5632 .f32 := spec0_3.stage ((cfgG (F := F) hp).slots t (3 : Fin 5))
abbrev ms4 (t : Fin (cfgG (F := F) hp).N) : Memref sig .tc .vmem S512x5632 .bf16 := spec0_4.stage ((cfgG (F := F) hp).slots t (4 : Fin 5))

/-- The body at step `t`. -/
def bodyAt (t : Fin (cfgG (F := F) hp).N) : Prog (TpuEff nD τ sig (Elt F) Λ₀ .tc) PUnit :=
  cc0_grouped_fp8_matmul ((cfgG (F := F) hp).grid.coords t) (Memref.whole main_v42) (Memref.isWhole_whole _) (Memref.whole main_v26) (Memref.isWhole_whole _)
    (Memref.whole main_v1) (Memref.isWhole_whole _) (Memref.whole main_v0) (Memref.isWhole_whole _) (Memref.whole main_v43) (Memref.isWhole_whole _)
    (ms0 (F := F) hp t) (hstage0_0 (((cfgG (F := F) hp).slots t (0 : Fin 5)).cast nbuf0_0)) (ms1 (F := F) hp t) (hstage0_1 (((cfgG (F := F) hp).slots t (1 : Fin 5)).cast nbuf0_1))
    (ms2 (F := F) hp t) (hstage0_2 (((cfgG (F := F) hp).slots t (2 : Fin 5)).cast nbuf0_2)) (ms3 (F := F) hp t) (hstage0_3 (((cfgG (F := F) hp).slots t (3 : Fin 5)).cast nbuf0_3))
    (ms4 (F := F) hp t) (hstage0_4 (((cfgG (F := F) hp).slots t (4 : Fin 5)).cast nbuf0_4))

theorem defs₀_row (t : Fin (cfgG (F := F) hp).N) :
    defs₀ (F := F) .tc (cfgG (F := F) hp).body ((cfgG (F := F) hp).bodyArgs t ((cfgG (F := F) hp).slots t)) = bodyAt hp t := by
  unfold defs₀; rw [Defs.onTc_tc]; rfl

/-- What the body is called with at step `t`, and what it returns. -/
def bodyPre (c : Dev nD) (t : Fin (cfgG (F := F) hp).N) : sProp 𝕄 :=
  iprop((dats m hp 0 c).Φ t.castSucc ∗ (dats m hp 0 c).owesAt () t.castSucc
    ∗ (∃ d, owns (c : Thread nD τ) (ms0 (F := F) hp t) fullShare ((dats m hp 0 c).before (0 : Fin 5) t d))
    ∗ (∃ d, owns (c : Thread nD τ) (ms1 (F := F) hp t) fullShare ((dats m hp 0 c).before (1 : Fin 5) t d))
    ∗ (∃ d, owns (c : Thread nD τ) (ms2 (F := F) hp t) fullShare ((dats m hp 0 c).before (2 : Fin 5) t d))
    ∗ (∃ d, owns (c : Thread nD τ) (ms3 (F := F) hp t) fullShare ((dats m hp 0 c).before (3 : Fin 5) t d))
    ∗ (∃ d, owns (c : Thread nD τ) (ms4 (F := F) hp t) fullShare ((dats m hp 0 c).before (4 : Fin 5) t d)))
def bodyPost (c : Dev nD) (t : Fin (cfgG (F := F) hp).N) : sProp 𝕄 :=
  iprop((dats m hp 0 c).Φ t.succ ∗ (dats m hp 0 c).owesAt () t.succ
    ∗ owns (c : Thread nD τ) (ms0 (F := F) hp t) fullShare ((dats m hp 0 c).after (0 : Fin 5) t)
    ∗ owns (c : Thread nD τ) (ms1 (F := F) hp t) fullShare ((dats m hp 0 c).after (1 : Fin 5) t)
    ∗ owns (c : Thread nD τ) (ms2 (F := F) hp t) fullShare ((dats m hp 0 c).after (2 : Fin 5) t)
    ∗ owns (c : Thread nD τ) (ms3 (F := F) hp t) fullShare ((dats m hp 0 c).after (3 : Fin 5) t)
    ∗ (dats m hp 0 c).leavesExact (4 : Fin 5) t)

/-- A step of the output's buffer from what it held before to what the pipeline expects after it. -/
theorem leaves4 (c : Dev nD) (t : Fin (cfgG (F := F) hp).N) (d) :
    (owns (c : Thread nD τ) (ms4 (F := F) hp t) fullShare (stepAt m hp c ⟨t.val, lt_of_N hp t.isLt⟩ ((dats m hp 0 c).before (4 : Fin 5) t d)) : sProp 𝕄)
      ⊢ (dats m hp 0 c).leavesExact (4 : Fin 5) t := by
  have e := outAt_step m hp c ⟨t.val, lt_of_N hp t.isLt⟩ ((dats m hp 0 c).before (4 : Fin 5) t d) (before4 m hp c t d)
  have ha : (owns (c : Thread nD τ) (ms4 (F := F) hp t) fullShare (stepAt m hp c ⟨t.val, lt_of_N hp t.isLt⟩ ((dats m hp 0 c).before (4 : Fin 5) t d)) : sProp 𝕄)
      ⊢ owns (c : Thread nD τ) (ms4 (F := F) hp t) fullShare ((dats m hp 0 c).after (4 : Fin 5) t) := by
    rw [e, after4]
  unfold Dat.leavesExact
  split
  · next hi =>
    split
    · have hw := (idle_iff hp t).1 hi
      rw [stepAt_past m hp c ⟨t.val, lt_of_N hp t.isLt⟩ hw]
      iintro H; iexists d; iexact H
    · exact ha
  · exact ha

/-- The body at any step. -/
theorem sound_body (c : Dev nD) (t : Fin (cfgG (F := F) hp).N) :
    bodyPre m hp c t ⊢ wp frame (wpE (defs₀ (F := F)) Variants.none c none) Set.univ (bodyAt hp t) (fun _ => bodyPost m hp c t) := by
  unfold bodyPre bodyPost bodyAt
  simp only [before0, before1, before2, before3]
  rw [show (dats m hp 0 c).Φ t.succ = (dats m hp 0 c).Φ t.castSucc from rfl,
    show (dats m hp 0 c).owesAt () t.succ = (dats m hp 0 c).owesAt () t.castSucc from rfl,
    show (dats m hp 0 c).Φ t.castSucc = iprop(Pipeline.ΦA spec0 c ∗ Pipeline.ΦT pre0 (pfG (F := F) gs) c) from rfl,
    tables_open, after0, after1, after2, after3]
  iintro ⟨⟨HA, HT1, HT2, HT3, HT4, HT5⟩, Ho, ⟨%d0, H0⟩, ⟨%d1, H1⟩, ⟨%d2, H2⟩, ⟨%d3, H3⟩, ⟨%d4, H4⟩⟩
  iapply (run_step (F := F) hp c ((cfgG (F := F) hp).grid.coords t) fullShare.right _ _ _ _ _ _ _ _ _ _ _ _ _ _ _ _ _ _ _ _
    (bx m hp c ⟨t.val, lt_of_N hp t.isLt⟩) (bxs m hp c ⟨t.val, lt_of_N hp t.isLt⟩) (bw m hp c ⟨t.val, lt_of_N hp t.isLt⟩) (bws m hp c ⟨t.val, lt_of_N hp t.isLt⟩)
    ((dats m hp 0 c).before (4 : Fin 5) t d4) Set.univ _)
  isplitl [HT1 HT2 HT3 HT4 HT5 H0 H1 H2 H3 H4]
  · isplitl [HT1]; · iexact HT1
    isplitl [HT2]; · iexact HT2
    isplitl [HT3]; · iexact HT3
    isplitl [HT4]; · iexact HT4
    isplitl [HT5]; · iexact HT5
    isplitl [H0]; · iexact H0
    isplitl [H1]; · iexact H1
    isplitl [H2]; · iexact H2
    isplitl [H3]; · iexact H3
    iexact H4
  · iintro ⟨HT1, HT2, HT3, HT4, HT5, H0, H1, H2, H3, H4⟩
    isplitl [HA HT1 HT2 HT3 HT4 HT5]
    · isplitl [HA]; · iexact HA
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    isplitl [H3]; · iexact H3
    rw [coords_val]
    iapply (leaves4 m hp c t d4)
    iexact H4

/-- The library's body obligation, at every step. -/
theorem body_obligation (c : Dev nD) : BodyObligation (dats (F := F) m hp 0 c) (defs₀ (F := F)) Variants.none () Set.univ := fun t => by
  rw [bigSep_W0, bigSep_W0, show defs₀ (F := F) .tc (Pipeline.pin (pcfgs (F := F)) (adm hp) 0).body _ = bodyAt hp t from defs₀_row (F := F) hp t]
  exact triple_restated (sound_body m hp c t) rfl .rfl fun _ => .rfl

/-! ## The launch -/

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem stretches_fresh : (stretches (F := F)).Forall fun ops => ops.Forall fun op => op.fresh = ∅ := by
  refine ⟨?_, ?_, ?_, ?_, ?_, ?_, ?_, ?_, ?_⟩ <;> repeat' first | exact rfl | apply And.intro

theorem hmain (𝒱₀ : Variants) : Pipeline.HMainP (Ix := Unit) (Name := ℕ) (U := UR sig nD τ) (Lvl := ℕ) (pcfgs (F := F)) 0 defs₀ 𝒱₀ m (main (F := F)) (fun c b => V m c b) :=
  Pipeline.hmainP_prefixes (pcfgs (F := F)) 0 defs₀ 𝒱₀ m main stretches stretches_sub stretches_fresh fun c => main_chain c

/-- The tables hold, as the region finds them, the contents the pipeline is pinned at. -/
theorem hpf (hgs : ∀ c : Dev nD, m (c, Proc.devRef .tc main_arg2) = gs) (c : Dev nD) (k : Fin 5) : V m c (pre0.ref k) = pfG (F := F) gs k := by
  obtain ⟨h0, h1, h2, h3, h4⟩ := tables_read (F := F) (V := fun b => m (c, b)) (gs := gs) (hgs c)
  match k with
  | ⟨0, _⟩ => exact h0
  | ⟨1, _⟩ => exact h1
  | ⟨2, _⟩ => exact h2
  | ⟨3, _⟩ => exact h3
  | ⟨4, _⟩ => exact h4

set_option backward.isDefEq.respectTransparency.types false in
/-- The launch: every weakly fair execution terminates, every array of the pipeline ends at what the proof data says, every
    other buffer as the region found it, and every semaphore counter at zero. -/
theorem run_main (hgs : ∀ c : Dev nD, m (c, Proc.devRef .tc main_arg2) = gs) :
    θ_run defs (onTc (τ := τ) (main (F := F))) (s₀ m ρ)
      (fun r => Pipeline.FramePost (Pipeline.pin (pcfgs (F := F)) (adm hp)) (dats m hp) 0 (fun c b => V m c b) r ∧ r.2.sem = fun _ => 0) :=
  Pipeline.θ_run_frameP (Q' := _) (pcfgs (F := F)) (adm hp) (dats m hp) (0 : Fin 1) launch0 defs₀ Variants.none m ρ main
    (hbody := fun c => (body_obligation m hp c).loose) (hshare := fun c => (dats m hp 0 c).share_full fun _ => rfl)
    (howed := fun _ _ => rfl) (V := fun c b => V m c b) (hmain := hmain m Variants.none) (hA := A_eq m hp) (hpf := hpf m hgs) (hΦ := fun _ _ => rfl)

end Cert.KernelIdeal.Hand
-- ==== Proof.Ends.lean ====
module

public import proofs.«01_k».proof.Proof.Run
public import Idealize.ShloMosaic.Lib.Claim

/-! # What every final state holds

The arguments as they were, the result at what the grid steps wrote back, every semaphore counter at zero. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

variable (m : (ℓ : Loc nD τ sig) → Buf (Elt F) ℓ) (ρ : Dev nD → PrngReg)
variable {gs : IVec S4 32} (hp : Parts gs)

/-- The result array after the last grid step. -/
def resultArr (c : Dev nD) : FVec F S65536x5632 .bf16 := (dats m hp 0 c).arrAt (4 : Fin 5) 131

theorem rest2 : main_arg2 ∈ Pipeline.restRefs sig spec0 := Pipeline.mem_restRefs_of main_arg2 rfl (by decide)
theorem rest4 : main_arg4 ∈ Pipeline.restRefs sig spec0 := Pipeline.mem_restRefs_of main_arg4 rfl (by decide)

/-- The run: it terminates without fault, the result is `resultArr`, the arguments are unchanged, every counter is zero. -/
theorem run_ends (hgs : ∀ c : Dev nD, m ((c.tc : Thread nD τ).loc main_arg2) = gs) :
    θ_run defs (onTc (τ := τ) (main (F := F))) ⟨m, fun _ => 0, ρ⟩ (fun r => (∀ c : Dev nD,
      r.2.mem ((c.tc : Thread nD τ).loc main_v45) = resultArr m hp c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ hp hgs)
  obtain ⟨hw, hr⟩ := h.1 c
  obtain ⟨a0, a1, a2, a3, a4, -⟩ := args_read (F := F) (fun b => m (c, b))
  refine ⟨hw (4 : Fin 5), ?_, ?_, ?_, ?_, ?_⟩
  · exact (hw (0 : Fin 5)).trans (((dats m hp 0 c).arrAt_in (0 : Fin 5) rfl _).trans ((A_eq m hp c 0).trans a0))
  · exact (hw (1 : Fin 5)).trans (((dats m hp 0 c).arrAt_in (1 : Fin 5) rfl _).trans ((A_eq m hp c 1).trans a1))
  · exact (hr main_arg2 rest2).trans a2
  · exact (hw (2 : Fin 5)).trans (((dats m hp 0 c).arrAt_in (2 : Fin 5) rfl _).trans ((A_eq m hp c 2).trans a3))
  · exact (hr main_arg4 rest4).trans a4

include hp in
/-- The frame. -/
theorem frame (hgs : ∀ c : Dev nD, m ((c.tc : Thread nD τ).loc main_arg2) = gs) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_ends m ρ hp hgs)

/-- There is one device: what holds of device 0's group sizes holds of every device's. -/
theorem sizes_all (c : Dev nD) : m ((c.tc : Thread nD τ).loc main_arg2) = m (((0 : Dev nD).tc : Thread nD τ).loc main_arg2) := by
  obtain rfl : c = (0 : Dev nD) := Subsingleton.elim (α := Fin 1) c 0
  rfl

end Cert.KernelIdeal.Hand
-- ==== Proof.Frames.lean ====
module

public import proofs.«01_k».proof.Defs
public import proofs.«01_k».proof.Proof.Ends
public import proofs.«01_k».proof.Proof.Gen.Kernel
public import proofs.«01_k».proof.Proof.Gen.KernelIdeal
public import proofs.«01_k».proof.Proof.Gen.Pre_partition
public import Idealize.ShloMosaic.Lib.Tactic

/-! # The kernel's frames

The ideal program's frame, and the printed program's: the two programs are one text, so the run proved of that text at any
floats is the run of both. -/

@[expose] public section

noncomputable section

namespace Cert.Proof

open Idealize.ShloMosaic Idealize.ShloMosaic.Tactic Idealize.SL.Sem

/-- The ideal program terminates without fault and leaves its arguments unchanged. -/
theorem frame_ideal : Cert.quiescent_KernelIdeal (hKernelIdeal := Cert.KernelIdeal.Gen.facts) (hPre_partition := Cert.Pre_partition.Gen.facts) :=
  fun m g h => Cert.KernelIdeal.Hand.frame m g
    (Cert.KernelIdeal.Hand.parts_of_pre _ _ _ _ (h 0)) (Cert.KernelIdeal.Hand.sizes_all m)

/-- `quiescent_Kernel`, said of the ideal program's text read at the machine's floats. -/
def quiescentText : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_partition.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The printed program and the ideal program are the same text. -/
theorem same_text : Cert.quiescent_Kernel (hKernel := Cert.Kernel.Gen.facts) (hPre_partition := Cert.Pre_partition.Gen.facts) = quiescentText := by
  sl_kernel_rfl

/-- The run of that text at the machine's floats. -/
theorem frame_text : quiescentText :=
  fun m g h => Cert.KernelIdeal.Hand.frame (F := Bits) m g
    (Cert.KernelIdeal.Hand.parts_of_pre _ _ _ _ (h 0)) (Cert.KernelIdeal.Hand.sizes_all m)

/-- The printed program terminates without fault and leaves its arguments unchanged. -/
theorem frame_bits : Cert.quiescent_Kernel (hKernel := Cert.Kernel.Gen.facts) (hPre_partition := Cert.Pre_partition.Gen.facts) :=
  Eq.mpr same_text frame_text

end Cert.Proof

end
-- ==== Proof.BlockValue.lean ====
module

public import proofs.«01_k».proof.Proof.Chunk
public import Idealize.ShloMosaic.Lib.Pointwise
public import Idealize.ShloMosaic.Lib.ValueIdx

/-! # A block of products over the extended reals

Element `(r, n)` of a step's block is the sum over the model dimension of row `r` times column `n`, times the row's
scale, times the column's scale. -/

@[expose] public section

set_option maxRecDepth 16384

noncomputable section

namespace Cert.KernelIdeal.Hand

open Cert.KernelIdeal Cert.KernelIdeal.Gen
open Idealize.ShloMosaic Idealize.ShloMosaic.TcCoe

/-- One chunk's product at an element. -/
theorem pay2_apply (x6 : Vec Ideal S512x2816 .fp8e4m3) (w : Vec Ideal S1x2816x512 .fp8e4m3) (x7 : Vec Ideal S512x1 .f32)
    (s : Vec Ideal S1x1x512 .f32) (r : Fin 512) (q : Fin 512) :
    k0_pay2 (F := Ideal) x6 w x7 s (ix2 r q)
      = ((∑ k : Fin 2816, (x6 (ix2 r k) : EReal) * (w (ix3 0 k q) : EReal)) * (x7 (ix2 r 0) : EReal)) * (s (ix3 0 0 q) : EReal) := by
  pointwise [k0_pay2]

theorem colW_apply (x8 : Vec Ideal S1x2816x5632 .fp8e4m3) (k : Fin 11) (a : Fin 2816) (q : Fin 512) (n : Fin 5632)
    (hn : n.val = 512 * k.val + q.val) : colW x8 k (ix3 0 a q) = x8 (ix3 0 a n) := by
  unfold colW
  refine congrArg x8 (funext fun i => Fin.ext ?_)
  rw [Rect.idx_unit_val]
  match i with
  | ⟨0, _⟩ => rfl
  | ⟨1, _⟩ => exact Nat.zero_add _
  | ⟨2, _⟩ => exact hn.symm

theorem colS_apply (x9 : Vec Ideal S1x1x5632 .f32) (k : Fin 11) (q : Fin 512) (n : Fin 5632)
    (hn : n.val = 512 * k.val + q.val) : colS x9 k (ix3 0 0 q) = x9 (ix3 0 0 n) := by
  unfold colS
  refine congrArg x9 (funext fun i => Fin.ext ?_)
  rw [Rect.idx_unit_val]
  match i with
  | ⟨0, _⟩ => rfl
  | ⟨1, _⟩ => rfl
  | ⟨2, _⟩ => exact hn.symm

/-- The block of products at an element. -/
theorem yv_apply (x6 : Vec Ideal S512x2816 .fp8e4m3) (x7 : Vec Ideal S512x1 .f32) (x8 : Vec Ideal S1x2816x5632 .fp8e4m3)
    (x9 : Vec Ideal S1x1x5632 .f32) (r : Fin 512) (n : Fin 5632) :
    yv x6 x7 x8 x9 (ix2 r n)
      = ((∑ k : Fin 2816, (x6 (ix2 r k) : EReal) * (x8 (ix3 0 k n) : EReal)) * (x7 (ix2 r 0) : EReal)) * (x9 (ix3 0 0 n) : EReal) := by
  have hq : n.val % 512 < 512 := Nat.mod_lt _ (by decide)
  have hk : kOf (ix2 r n) = ⟨n.val / 512, by have := n.isLt; omega⟩ := rfl
  have hi : inChunk (ix2 r n) = ix2 r ⟨n.val % 512, hq⟩ := by
    funext a; match a with
    | ⟨0, _⟩ => rfl
    | ⟨1, _⟩ => rfl
  have hn : n.val = 512 * (⟨n.val / 512, by have := n.isLt; omega⟩ : Fin 11).val + (⟨n.val % 512, hq⟩ : Fin 512).val := by
    show n.val = 512 * (n.val / 512) + n.val % 512; omega
  unfold yv
  rw [hk, hi, pay2_apply, colS_apply x9 _ _ n hn]
  congr 2
  exact Finset.sum_congr rfl fun k _ => by rw [colW_apply x8 _ k _ n hn]

end Cert.KernelIdeal.Hand

end
-- ==== Proof.Owner.lean ====
module

public import proofs.«01_k».proof.Proof.Plan
public import Idealize.ShloMosaic.Lib.Pointwise
public import Idealize.ShloMosaic.Lib.WordCmp

/-! # The expert of a row, and the value of the layer at an element -/

@[expose] public section

noncomputable section

namespace WorkList

/-- The expert that row `R` belongs to. -/
def owner (g : ℕ → ℕ) (R : ℕ) : Fin 4 := if R < hi g 0 then 0 else if R < hi g 1 then 1 else if R < hi g 2 then 2 else 3

/-- It is the one whose rows `R` is among. -/
theorem owner_iff {g : ℕ → ℕ} (hsum : hi g 3 = 65536) {R : ℕ} (hR : R < 65536) (e : Fin 4) :
    owner g R = e ↔ lo g e ≤ R ∧ R < hi g e := by
  have l0 := lo_zero (g := g); have l1 := lo_succ (g := g) 0; have l2 := lo_succ (g := g) 1; have l3 := lo_succ (g := g) 2
  have h0 := hi_eq (g := g) 0; have h1 := hi_eq (g := g) 1; have h2 := hi_eq (g := g) 2; have h3 := hi_eq (g := g) 3
  simp only [Nat.zero_add, Nat.reduceAdd] at l1 l2 l3
  unfold owner
  fin_cases e <;> simp only [Fin.zero_eta, Fin.mk_one, Fin.reduceFinMk, Fin.val_zero, Fin.val_one, Fin.val_two, Fin.isValue] <;>
    split_ifs <;> simp <;> omega

end WorkList

namespace Idealize.ShloMosaic

/-- Two signed comparisons of words that hold small naturals: a range. -/
theorem range_iff {a l h : ℕ} (ha : a < 2 ^ 31) (hl : l < 2 ^ 31) (hh : h < 2 ^ 31) :
    IntOp.andi (IntOp.cmpi .sge (BitVec.ofNat 32 a) (BitVec.ofNat 32 l)) (IntOp.cmpi .slt (BitVec.ofNat 32 a) (BitVec.ofNat 32 h)) = 1#1
      ↔ l ≤ a ∧ a < h := by
  rw [WordCmp.cmpi_sge_ofNat ha hl, WordCmp.cmpi_slt_ofNat ha hh, WordCmp.andi_ofBool, WordCmp.ofBool_eq_one_iff, Bool.and_eq_true,
    decide_eq_true_eq, decide_eq_true_eq]

/-- Element `(R, n)` of the tokens times expert `e`'s weights, scaled by the token's and the column's scale. -/
def scaledDot (X : (⟨2, ![65536, 2816]⟩ : Shape).Idx → EReal) (XS : (⟨2, ![65536, 1]⟩ : Shape).Idx → EReal)
    (W : (⟨3, ![4, 2816, 5632]⟩ : Shape).Idx → EReal) (WS : (⟨2, ![4, 5632]⟩ : Shape).Idx → EReal)
    (e : Fin 4) (R : Fin 65536) (n : Fin 5632) : EReal :=
  ((∑ k : Fin 2816, X (ix2 R k) * W (ix3 e k n)) * XS (ix2 R 0)) * WS (ix2 e n)

/-- The layer: every row times the weights of its expert. -/
def layer (g : ℕ → ℕ) (X : (⟨2, ![65536, 2816]⟩ : Shape).Idx → EReal) (XS : (⟨2, ![65536, 1]⟩ : Shape).Idx → EReal)
    (W : (⟨3, ![4, 2816, 5632]⟩ : Shape).Idx → EReal) (WS : (⟨2, ![4, 5632]⟩ : Shape).Idx → EReal) :
    (⟨2, ![65536, 5632]⟩ : Shape).Idx → EReal :=
  fun i => scaledDot X XS W WS (WorkList.owner g (i 0).val) (i 0) (i 1)

end Idealize.ShloMosaic

end
-- ==== Proof.KernelBlocks.lean ====
module

public import proofs.«01_k».proof.Proof.Ends
public import proofs.«01_k».proof.Proof.BlockValue
public import proofs.«01_k».proof.Proof.Owner
public import Idealize.ShloMosaic.Lib.Pipeline.Value

/-! # The input blocks of a grid step, element by element

Step `t`'s blocks are rows `512 * tile t` and on of the tokens, and the weights and column scales of expert `ex t`. -/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)
variable {gs : IVec S4 32} (hp : Parts gs)

theorem index0 (t : Fin (cfgG (F := F) hp).N) : ((cfgG (F := F) hp).win (0 : Fin 5)).index t = ![WorkList.tile (gN gs) t.val, 0] := by
  have h := t0_eq (F := F) hp ((cfgG (F := F) hp).grid.coords t)
  rw [coords_val] at h
  exact h
theorem index1 (t : Fin (cfgG (F := F) hp).N) : ((cfgG (F := F) hp).win (1 : Fin 5)).index t = ![WorkList.tile (gN gs) t.val, 0] := by
  have h := t1_eq (F := F) hp ((cfgG (F := F) hp).grid.coords t)
  rw [coords_val] at h
  exact h
theorem index2 (t : Fin (cfgG (F := F) hp).N) : ((cfgG (F := F) hp).win (2 : Fin 5)).index t = ![WorkList.ex (gN gs) t.val, 0, 0] := by
  have h := t2_eq (F := F) hp ((cfgG (F := F) hp).grid.coords t)
  rw [coords_val] at h
  exact h
theorem index3 (t : Fin (cfgG (F := F) hp).N) : ((cfgG (F := F) hp).win (3 : Fin 5)).index t = ![WorkList.ex (gN gs) t.val, 0, 0] := by
  have h := t3_eq (F := F) hp ((cfgG (F := F) hp).grid.coords t)
  rw [coords_val] at h
  exact h

/-- The tokens' codes, the tokens' scales, the weights' codes and the column scales that core `c` is launched with. -/
abbrev argX (c : Dev nD) : Vec F S65536x2816 .fp8e4m3 := m ((c.tc : Thread nD τ).loc main_arg0)
abbrev argXS (c : Dev nD) : Vec F S65536x1 .f32 := m ((c.tc : Thread nD τ).loc main_arg1)
abbrev argW (c : Dev nD) : Vec F S4x2816x5632 .fp8e4m3 := m ((c.tc : Thread nD τ).loc main_arg3)
abbrev argWS (c : Dev nD) : Vec F S4x5632 .f32 := m ((c.tc : Thread nD τ).loc main_arg4)

theorem bx_apply (c : Dev nD) (t : Fin 131) (r : Fin 512) (k : Fin 2816) (R : Fin 65536)
    (hR : R.val = 512 * WorkList.tile (gN gs) t.val + r.val) : bx m hp c t (ix2 r k) = argX m c (ix2 R k) := by
  have hv := (args_read (F := F) (fun b => m (c, b))).1
  refine (congrFun hv _).trans (congrArg (argX m c) (funext fun a => Fin.ext ?_))
  refine (Pipeline.Window.rect_emb_val ((cfgG (F := F) hp).win (0 : Fin 5)) ⟨t.val, lt_N hp t.isLt⟩ (ix2 r k) a rfl).trans ?_
  rw [index0]
  match a with
  | ⟨0, _⟩ => show WorkList.tile (gN gs) t.val * 512 + r.val = R.val; omega
  | ⟨1, _⟩ => show 0 * 2816 + k.val = k.val; omega

theorem bxs_apply (c : Dev nD) (t : Fin 131) (r : Fin 512) (R : Fin 65536)
    (hR : R.val = 512 * WorkList.tile (gN gs) t.val + r.val) : bxs m hp c t (ix2 r 0) = argXS m c (ix2 R 0) := by
  have hv := (args_read (F := F) (fun b => m (c, b))).2.1
  refine (congrFun hv _).trans (congrArg (argXS m c) (funext fun a => Fin.ext ?_))
  refine (Pipeline.Window.rect_emb_val ((cfgG (F := F) hp).win (1 : Fin 5)) ⟨t.val, lt_N hp t.isLt⟩ (ix2 r 0) a rfl).trans ?_
  rw [index1]
  match a with
  | ⟨0, _⟩ => show WorkList.tile (gN gs) t.val * 512 + r.val = R.val; omega
  | ⟨1, _⟩ => rfl

theorem bw_apply (c : Dev nD) (t : Fin 131) (k : Fin 2816) (n : Fin 5632) (e : Fin 4)
    (he : e.val = WorkList.ex (gN gs) t.val) : bw m hp c t (ix3 0 k n) = argW m c (ix3 e k n) := by
  have hv := (args_read (F := F) (fun b => m (c, b))).2.2.2.1
  refine (congrFun hv _).trans (congrArg (argW m c) (funext fun a => Fin.ext ?_))
  refine (Pipeline.Window.rect_emb_val ((cfgG (F := F) hp).win (2 : Fin 5)) ⟨t.val, lt_N hp t.isLt⟩ (ix3 0 k n) a rfl).trans ?_
  rw [index2]
  match a with
  | ⟨0, _⟩ => show WorkList.ex (gN gs) t.val * 1 + 0 = e.val; omega
  | ⟨1, _⟩ => show 0 * 2816 + k.val = k.val; omega
  | ⟨2, _⟩ => show 0 * 5632 + n.val = n.val; omega

/-- The column scales reshaped to a stack of rows. -/
theorem ws_stack (x : Vec F S4x5632 .f32) (e : Fin 4) (n : Fin 5632) :
    shapeCast S4x1x5632 x shapeCasts_S4x5632_S4x1x5632 (ix3 e 0 n) = x (ix2 e n) := by
  pointwise

theorem bws_apply (c : Dev nD) (t : Fin 131) (n : Fin 5632) (e : Fin 4)
    (he : e.val = WorkList.ex (gN gs) t.val) : bws m hp c t (ix3 0 0 n) = argWS m c (ix2 e n) := by
  have hv := (args_read (F := F) (fun b => m (c, b))).2.2.2.2.2
  refine (congrFun hv _).trans (Eq.trans (congrArg (shapeCast S4x1x5632 (argWS m c) shapeCasts_S4x5632_S4x1x5632)
    (a₂ := ix3 e 0 n) (funext fun a => Fin.ext ?_)) (ws_stack _ _ _))
  refine (Pipeline.Window.rect_emb_val ((cfgG (F := F) hp).win (3 : Fin 5)) ⟨t.val, lt_N hp t.isLt⟩ (ix3 0 0 n) a rfl).trans ?_
  rw [index3]
  match a with
  | ⟨0, _⟩ => show WorkList.ex (gN gs) t.val * 1 + 0 = e.val; omega
  | ⟨1, _⟩ => rfl
  | ⟨2, _⟩ => show 0 * 5632 + n.val = n.val; omega

/-- The mask of a revisit: the rows of the step's expert. -/
theorem maskAt_iff (hp : Parts gs) (t : ℕ) (r : Fin 512) (n : Fin 5632) :
    maskAt F gs t (rowIdx (ix2 r n)) = 1
      ↔ WorkList.lo (gN gs) (WorkList.ex (gN gs) t) ≤ 512 * WorkList.tile (gN gs) t + r.val
        ∧ 512 * WorkList.tile (gN gs) t + r.val < WorkList.hi (gN gs) (WorkList.ex (gN gs) t) := by
  have h1 := WorkList.tile_lt hp t
  have h2 := WorkList.hi_le hp _ (WorkList.ex_lt hp t)
  have h3 := WorkList.hi_eq (g := gN gs) (WorkList.ex (gN gs) t)
  have hr : (rowIdx (ix2 r n)) = ix2 r 0 := by
    funext a; match a with
    | ⟨0, _⟩ => rfl
    | ⟨1, _⟩ => rfl
  have hrl := r.isLt
  rw [hr]
  unfold maskAt k0_pay15
  pointwise
  have hw : IntOp.addi (Scalar.muli (BitVec.ofNat 32 (WorkList.tile (gN gs) t)) 512#32) (BitVec.ofNat 32 r.val)
      = BitVec.ofNat 32 (512 * WorkList.tile (gN gs) t + r.val) := by
    apply BitVec.eq_of_toNat_eq
    show ((WorkList.tile (gN gs) t % 2 ^ 32 * 512 % 2 ^ 32) + r.val % 2 ^ 32) % 2 ^ 32 = (512 * WorkList.tile (gN gs) t + r.val) % 2 ^ 32
    omega
  rw [hw]
  exact range_iff (by omega) (by omega) (by omega)

end Cert.KernelIdeal.Hand

end
-- ==== Proof.KernelValue.lean ====
module

public import proofs.«01_k».proof.Proof.KernelBlocks
public import proofs.«01_k».proof.Proof.Owner
public import Idealize.ShloMosaic.Lib.Pipeline.ValueKit.Geometry

/-! # What the kernel's result array holds, over the extended reals

After step `t` the rows of its tile up to the end of its expert are final (`outAt_rows`); a tile's last step ends with all of
them, and that is when the tile is written back. So the array is `layer` of the arguments. -/

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)
variable {gs : IVec S4 32} (hp : Parts gs)

/-- The layer of core `c`'s arguments. -/
abbrev result (gs : IVec S4 32) (c : Dev nD) : S65536x5632.Idx → EReal :=
  layer (gN gs) (argX m c) (argXS m c) (argW m c) (argWS m c)

/-- A step's products are the layer's on the rows of its expert. -/
theorem prod_apply (c : Dev nD) (t : Fin 131) (r : Fin 512) (n : Fin 5632) (R : Fin 65536)
    (hR : R.val = 512 * WorkList.tile (gN gs) t.val + r.val)
    (hl : WorkList.lo (gN gs) (WorkList.ex (gN gs) t.val) ≤ R.val) (hh : R.val < WorkList.hi (gN gs) (WorkList.ex (gN gs) t.val)) :
    yv (bx m hp c t) (bxs m hp c t) (bw m hp c t) (bws m hp c t) (ix2 r n) = result m gs c (ix2 R n) := by
  have ho : WorkList.owner (gN gs) R.val = ⟨WorkList.ex (gN gs) t.val, WorkList.ex_lt hp t.val⟩ :=
    (WorkList.owner_iff hp R.isLt _).2 ⟨hl, hh⟩
  have hs : (∑ k : Fin 2816, (bx m hp c t (ix2 r k) : EReal) * (bw m hp c t (ix3 0 k n) : EReal))
      = ∑ k : Fin 2816, (argX m c (ix2 R k) : EReal) * (argW m c (ix3 ⟨WorkList.ex (gN gs) t.val, WorkList.ex_lt hp t.val⟩ k n) : EReal) :=
    Finset.sum_congr rfl fun k _ => Ideal.mul_congr (bx_apply m hp c t r k R hR) (bw_apply m hp c t k n _ rfl)
  refine (yv_apply _ _ _ _ r n).trans ?_
  refine (Ideal.mul_congr (Ideal.mul_congr hs (bxs_apply m hp c t r R hR)) (bws_apply m hp c t n ⟨WorkList.ex (gN gs) t.val, WorkList.ex_lt hp t.val⟩ rfl)).trans ?_
  show scaledDot (argX m c) (argXS m c) (argW m c) (argWS m c) _ R n = scaledDot _ _ _ _ (WorkList.owner (gN gs) R.val) R n
  rw [ho]

/-- After step `t` the rows of its tile before the end of its expert hold the layer. -/
theorem outAt_rows (c : Dev nD) : ∀ (t : ℕ) (ht : t < 131) (r : Fin 512) (n : Fin 5632) (R : Fin 65536)
    (hR : R.val = 512 * WorkList.tile (gN gs) t + r.val) (hh : R.val < WorkList.hi (gN gs) (WorkList.ex (gN gs) t)),
    outAt m hp c t (ix2 r n) = result m gs c (ix2 R n)
  | 0, ht, r, n, R, hR, hh =>
    prod_apply m hp c 0 r n R hR (by have := (WorkList.zero hp).1; show WorkList.lo (gN gs) (WorkList.ex (gN gs) 0) ≤ _; omega) hh
  | t + 1, ht, r, n, R, hR, hh => by
    have ih := outAt_rows c t (Nat.lt_of_succ_lt ht) r n R
    have e : outAt m hp c (t + 1) = stepAt m hp c ⟨t + 1, ht⟩ (outAt m hp c t) := dif_pos ht
    rw [e]
    by_cases hw : Works gs (t + 1)
    · unfold stepAt stepOut
      rw [if_pos hw]
      by_cases ha : Again gs (t + 1)
      · rw [if_pos ha]
        have ht2 : WorkList.tile (gN gs) t = WorkList.tile (gN gs) (t + 1) := ha.2
        show (if maskAt Ideal gs (t + 1) (rowIdx (ix2 r n)) = 1 then _ else _) = _
        by_cases hm : maskAt Ideal gs (t + 1) (rowIdx (ix2 r n)) = 1
        · rw [if_pos hm]
          have := (maskAt_iff hp (t + 1) r n).1 hm
          exact prod_apply m hp c ⟨t + 1, ht⟩ r n R hR (hR ▸ this.1) hh
        · rw [if_neg hm]
          have h1 : ¬ (WorkList.lo (gN gs) (WorkList.ex (gN gs) (t + 1)) ≤ R.val) := fun h =>
            hm ((maskAt_iff hp (t + 1) r n).2 ⟨hR ▸ h, hR ▸ hh⟩)
          have h2 := WorkList.revisit hp t hw ht2
          exact ih (by rw [ht2]; exact hR) (by omega)
      · rw [if_neg ha]
        have h1 := WorkList.first_visit hp (t + 1) hw (Or.inr fun h => ha ⟨Nat.succ_pos t, h⟩)
        exact prod_apply m hp c ⟨t + 1, ht⟩ r n R hR (by show WorkList.lo (gN gs) (WorkList.ex (gN gs) (t + 1)) ≤ _; omega) hh
    · rw [stepAt_past m hp c ⟨t + 1, ht⟩ hw]
      have hn := WorkList.n_pos hp
      have hw' : WorkList.n (gN gs) ≤ t + 1 := Nat.le_of_not_lt hw
      have p1 := WorkList.past (g := gN gs) t (by omega)
      have p2 := WorkList.past (g := gN gs) (t + 1) (by omega)
      exact ih (by rw [p1.2, ← p2.2]; exact hR) (by rw [p1.1, ← p2.1]; exact hh)

/-- The output window writes back at the last step of each tile only. -/
theorem last_of_flush (t : Fin (cfgG (F := Ideal) hp).N) (hf : ((cfgG (F := Ideal) hp).win (4 : Fin 5)).flush t = true) :
    t.val + 1 = 131 ∨ WorkList.tile (gN gs) t.val ≠ WorkList.tile (gN gs) (t.val + 1) := by
  by_contra hc
  have h1 : t.val + 1 ≠ 131 := fun h => hc (Or.inl h)
  have h2 : WorkList.tile (gN gs) t.val = WorkList.tile (gN gs) (t.val + 1) := by
    by_contra h; exact hc (Or.inr h)
  have := flush_same (F := Ideal) hp t.val t.isLt (by have := lt_of_N hp t.isLt; omega) ⟨Nat.succ_pos _, h2⟩
  rw [this] at hf
  exact Bool.false_ne_true hf

/-- It does write back there. -/
theorem flush_of_last (t : Fin (cfgG (F := Ideal) hp).N)
    (h : t.val + 1 = 131 ∨ WorkList.tile (gN gs) t.val ≠ WorkList.tile (gN gs) (t.val + 1)) :
    ((cfgG (F := Ideal) hp).win (4 : Fin 5)).flush t = true := by
  rw [Pipeline.Window.flush_eq_flushF]
  unfold Pipeline.Window.flushF
  rw [Bool.and_eq_true]
  refine ⟨rfl, ?_⟩
  rw [Bool.or_eq_true, decide_eq_true_eq, decide_eq_true_eq]
  rcases h with h | h
  · exact Or.inl h
  · by_cases h1 : t.val + 1 = 131
    · exact Or.inl h1
    · right
      have hN : t.val + 1 < 131 := by have := lt_of_N hp t.isLt; omega
      refine ⟨lt_N hp hN, (0 : Fin 2), fun he => h ?_⟩
      have e1 := congrFun (index4 (F := Ideal) hp ⟨t.val + 1, lt_N hp hN⟩) (0 : Fin 2)
      have e2 := congrFun (index4 (F := Ideal) hp t) (0 : Fin 2)
      exact e2.symm.trans (he.symm.trans e1)

/-- The result array is the layer. -/
theorem resultArr_eq (c : Dev nD) : resultArr m hp c = result m gs c := by
  refine (dats m hp 0 c).arrAt_eq_of_emb (4 : Fin 5) (result m gs c) (fun t hf y => ?_) (fun i => ?_)
  · have hl := WorkList.last_visit hp t.val (last_of_flush hp t hf)
    have hT := WorkList.tile_lt hp t.val
    rw [after4]
    have hy0 : (y (0 : Fin 2)).val < 512 := (y (0 : Fin 2)).isLt
    have hy1 : (y (1 : Fin 2)).val < 5632 := (y (1 : Fin 2)).isLt
    have h := outAt_rows m hp c t.val (lt_of_N hp t.isLt) ⟨(y (0 : Fin 2)).val, hy0⟩ ⟨(y (1 : Fin 2)).val, hy1⟩
      ⟨512 * WorkList.tile (gN gs) t.val + (y (0 : Fin 2)).val, by omega⟩ rfl (by show 512 * _ + (y (0 : Fin 2)).val < _; omega)
    have hy : ((cfgG (F := Ideal) hp).win (4 : Fin 5)).xinj ((cfgG (F := Ideal) hp).grid.coords t) y
        = ix2 (⟨(y (0 : Fin 2)).val, hy0⟩ : Fin 512) (⟨(y (1 : Fin 2)).val, hy1⟩ : Fin 5632) := by
      funext a
      match a with
      | ⟨0, _⟩ => rfl
      | ⟨1, _⟩ => rfl
    refine (congrArg (outAt m hp c t.val) hy).trans (h.trans (congrArg (result m gs c) (funext fun a => Fin.ext ?_)))
    refine Eq.trans ?_ (Pipeline.Window.rect_emb_val ((cfgG (F := Ideal) hp).win (4 : Fin 5)) t y a rfl).symm
    rw [index4]
    match a with
    | ⟨0, _⟩ => show 512 * WorkList.tile (gN gs) t.val + (y (0 : Fin 2)).val = WorkList.tile (gN gs) t.val * 512 + (y (0 : Fin 2)).val; omega
    | ⟨1, _⟩ => show (y (1 : Fin 2)).val = 0 * 5632 + (y (1 : Fin 2)).val; omega
  · have hi0 : (i (0 : Fin 2)).val < 65536 := (i (0 : Fin 2)).isLt
    have hi1 : (i (1 : Fin 2)).val < 5632 := (i (1 : Fin 2)).isLt
    obtain ⟨t, ht, hT, hlast⟩ := WorkList.exists_last hp ((i (0 : Fin 2)).val / 512) (by omega)
    refine ⟨⟨t, lt_N hp ht⟩, flush_of_last hp _ hlast, ?_⟩
    refine (Pipeline.Window.emb_mem_blk_iff ((cfgG (F := Ideal) hp).win (4 : Fin 5)) ⟨t, lt_N hp ht⟩ i rfl).2 fun a => ?_
    rw [index4]
    match a with
    | ⟨0, _⟩ =>
      show WorkList.tile (gN gs) t * 512 ≤ (i (0 : Fin 2)).val ∧ (i (0 : Fin 2)).val < WorkList.tile (gN gs) t * 512 + 512
      omega
    | ⟨1, _⟩ =>
      show 0 * 5632 ≤ (i (1 : Fin 2)).val ∧ (i (1 : Fin 2)).val < 0 * 5632 + 5632
      omega

end Cert.KernelIdeal.Hand

end
-- ==== Proof.RefValue.lean ====
module

public import proofs.«01_k».proof.Proof.Gen.ReferenceIdeal.Value
public import proofs.«01_k».proof.Proof.Owner
public import Idealize.ShloMosaic.Lib.Pipeline.ValueKit.Geometry
public import Idealize.ShloMosaic.Lib.Pipeline.ValueKit.Tiles
public import Idealize.ShloMosaic.Lib.Tactic

/-! # What the reference's result array holds, over the extended reals

The reference selects, group by group, the rows' products and scales. Over group sizes that partition the rows the last
selection that applies to a row is its expert's, so the array is `layer` of the arguments. -/

@[expose] public section

set_option maxRecDepth 16384

noncomputable section

namespace Cert.ReferenceIdeal.Hand

open Cert.ReferenceIdeal Cert.ReferenceIdeal.Gen
open Idealize.ShloMosaic Idealize.ShloMosaic.TcCoe

theorem hz : (![0, 0] : Fin 2 → Nat) = fun _ => 0 := funext fun a => by fin_cases a <;> rfl

/-- The reference's mathematics of whole blocks: four sizes, tokens, scales, weights, column scales. -/
def refBlock (s0 s1 s2 s3 : BitVec 32) (x : Vec Ideal S65536x2816 .fp8e4m3) (xs : Vec Ideal S65536x1 .f32)
    (w0 w1 w2 w3 : Vec Ideal S1x2816x5632 .fp8e4m3) (a0 a1 a2 a3 : Vec Ideal S1x5632 .f32) : FVec Ideal S65536x5632 .bf16 :=
  k0_pay1 (F := Ideal)
    (k0_pay7 (F := Ideal) (iota .tc S65536x1 32 [0] iota_S65536x1_d0_w32) (k0_pay3 (F := Ideal) s0 a0) (Scalar.addi (Scalar.addi 0#32 s0) s1)
      (k0_pay4 (F := Ideal) s0 s1) a1 s2 a2)
    (k0_pay9 (F := Ideal) (iota .tc S65536x1 32 [0] iota_S65536x1_d0_w32) (Scalar.addi (Scalar.addi 0#32 s0) s1)
      (k0_pay5 (F := Ideal) s0 x w0 s1 x w1) s2 x w2 s3 x w3)
    a3 (k0_pay10 (F := Ideal) (iota .tc S65536x1 32 [0] iota_S65536x1_d0_w32) (Scalar.addi (Scalar.addi 0#32 s0) s1) s2 s3) xs

/-- What the body leaves in the output's buffer. -/
theorem out_A (c : Dev nD) (arg0 : Memref sig .tc .smem S4 .i32) (harg0 : arg0.IsWhole) (arg1 : Memref sig .tc .vmem S65536x2816 .fp8e4m3) (harg1 : arg1.IsWhole)
    (arg2 : Memref sig .tc .vmem S65536x1 .f32) (harg2 : arg2.IsWhole) (arg3 : Memref sig .tc .vmem S4x2816x5632 .fp8e4m3) (harg3 : arg3.IsWhole)
    (arg4 : Memref sig .tc .vmem S4x5632 .f32) (harg4 : arg4.IsWhole) (arg5 : Memref sig .tc .vmem S65536x5632 .bf16) (harg5 : arg5.IsWhole)
    (x0 : Vec Ideal S4 .i32) (x1 : Vec Ideal S65536x2816 .fp8e4m3) (x2 : Vec Ideal S65536x1 .f32) (x3 : Vec Ideal S4x2816x5632 .fp8e4m3) (x4 : Vec Ideal S4x5632 .f32) :
    out0_A_5 (F := Ideal) c arg0 harg0 arg1 harg1 arg2 harg2 arg3 harg3 arg4 harg4 arg5 harg5 x0 x1 x2 x3 x4 =
      refBlock (x0 (ix1 0)) (x0 (ix1 1)) (x0 (ix1 2)) (x0 (ix1 3)) x1 x2
        (View.ld x3 (Rect.unit ![0, 0, 0] ![1, 2816, 5632] inb_S4x2816x5632_S1x2816x5632_0_0_0))
        (View.ld x3 (Rect.unit ![1, 0, 0] ![1, 2816, 5632] inb_S4x2816x5632_S1x2816x5632_1_0_0))
        (View.ld x3 (Rect.unit ![2, 0, 0] ![1, 2816, 5632] inb_S4x2816x5632_S1x2816x5632_2_0_0))
        (View.ld x3 (Rect.unit ![3, 0, 0] ![1, 2816, 5632] inb_S4x2816x5632_S1x2816x5632_3_0_0))
        (View.ld x4 (Rect.unit ![0, 0] ![1, 5632] inb_S4x5632_S1x5632_0_0))
        (View.ld x4 (Rect.unit ![1, 0] ![1, 5632] inb_S4x5632_S1x5632_1_0))
        (View.ld x4 (Rect.unit ![2, 0] ![1, 5632] inb_S4x5632_S1x5632_2_0))
        (View.ld x4 (Rect.unit ![3, 0] ![1, 5632] inb_S4x5632_S1x5632_3_0)) := by
  have hw : ∀ (e : Fin 4) (inb) (j : (Rect.unit (s := S4) ![e.val] ![1] inb).shape.Idx),
      (View.ld (Val := Elt Ideal) (S := S4) (e' := .i32) x0 (Rect.unit ![e.val] ![1] inb) : _ → BitVec 32) j = x0 (ix1 e) := by
    intro e inb j
    refine congrArg x0 (funext fun a => Fin.ext ?_)
    have hj : (j 0).val < 1 := (j 0).isLt
    match a with
    | ⟨0, _⟩ =>
      refine (Rect.idx_unit_val (s := S4) ![e.val] ![1] inb j 0).trans ?_
      show e.val + (j 0).val = e.val
      omega
  have hw0 := hw 0; have hw1 := hw 1; have hw2 := hw 2; have hw3 := hw 3
  simp only [Fin.val_zero, Fin.val_one, Fin.val_two, Fin.isValue] at hw0 hw1 hw2 hw3
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S65536x2816) hz, View.ld_unit_zero (S := S65536x1) hz, shapeCast_self]
  unfold refBlock
  rw [hw0, hw1, hw2]
  erw [hw3]

/-- It at an element, when the sizes are a partition of the rows: the product with the row's expert. -/
theorem refBlock_apply {g : ℕ → ℕ} (hsum : WorkList.hi g 3 = 65536) (s : Fin 4 → BitVec 32) (hs : ∀ e, s e = BitVec.ofNat 32 (g e.val))
    (x : Vec Ideal S65536x2816 .fp8e4m3) (xs : Vec Ideal S65536x1 .f32)
    (w : Fin 4 → Vec Ideal S1x2816x5632 .fp8e4m3) (a : Fin 4 → Vec Ideal S1x5632 .f32) (R : Fin 65536) (n : Fin 5632) :
    refBlock (s 0) (s 1) (s 2) (s 3) x xs (w 0) (w 1) (w 2) (w 3) (a 0) (a 1) (a 2) (a 3) (ix2 R n)
      = ((∑ k : Fin 2816, (x (ix2 R k) : EReal) * (w (WorkList.owner g R.val) (ix3 0 k n) : EReal)) * (xs (ix2 R 0) : EReal))
        * (a (WorkList.owner g R.val) (ix2 0 n) : EReal) := by
  have b0 := WorkList.hi_le hsum 0 (by decide); have b1 := WorkList.hi_le hsum 1 (by decide)
  have b2 := WorkList.hi_le hsum 2 (by decide); have b3 := WorkList.hi_le hsum 3 (by decide)
  have hR := R.isLt
  have add : ∀ p q : ℕ, Scalar.addi (BitVec.ofNat 32 p) (BitVec.ofNat 32 q) = BitVec.ofNat 32 (p + q) := fun p q => (BitVec.ofNat_add p q).symm
  have e0 : Scalar.addi 0#32 (s 0) = BitVec.ofNat 32 (WorkList.hi g 0) := by
    rw [hs]; exact (add 0 (g 0)).trans (congrArg (BitVec.ofNat 32) (Nat.zero_add _))
  have e1 : Scalar.addi (BitVec.ofNat 32 (WorkList.hi g 0)) (s 1) = BitVec.ofNat 32 (WorkList.hi g 1) := by rw [hs]; exact add _ _
  have e2 : Scalar.addi (BitVec.ofNat 32 (WorkList.hi g 1)) (s 2) = BitVec.ofNat 32 (WorkList.hi g 2) := by rw [hs]; exact add _ _
  have e3 : Scalar.addi (BitVec.ofNat 32 (WorkList.hi g 2)) (s 3) = BitVec.ofNat 32 (WorkList.hi g 3) := by rw [hs]; exact add _ _
  pointwise [refBlock, k0_pay1, k0_pay2, k0_pay3, k0_pay4, k0_pay5, k0_pay6, k0_pay7, k0_pay8, k0_pay9, k0_pay10]
  rw [e0, e1, e2, e3]
  have m0 := (range_iff (a := R.val) (l := 0) (h := WorkList.hi g 0) (by omega) (by omega) (by omega)).trans
    (Iff.trans (by rw [show WorkList.lo g (0 : Fin 4).val = 0 from WorkList.lo_zero]; rfl) (WorkList.owner_iff hsum hR 0).symm)
  have m1 := (range_iff (a := R.val) (l := WorkList.hi g 0) (h := WorkList.hi g 1) (by omega) (by omega) (by omega)).trans
    (Iff.trans (by rw [← WorkList.lo_succ (g := g) 0]; rfl) (WorkList.owner_iff hsum hR 1).symm)
  have m2 := (range_iff (a := R.val) (l := WorkList.hi g 1) (h := WorkList.hi g 2) (by omega) (by omega) (by omega)).trans
    (Iff.trans (by rw [← WorkList.lo_succ (g := g) 1]; rfl) (WorkList.owner_iff hsum hR 2).symm)
  have m3 := (range_iff (a := R.val) (l := WorkList.hi g 2) (h := WorkList.hi g 3) (by omega) (by omega) (by omega)).trans
    (Iff.trans (by rw [← WorkList.lo_succ (g := g) 2]; rfl) (WorkList.owner_iff hsum hR 3).symm)
  have sel : ∀ {α : Type} (c : BitVec 1) (p q : α), Scalar.select c p q = if c = 1#1 then p else q := fun _ _ _ => rfl
  simp only [sel, m0, m1, m2, m3]
  obtain h | h | h | h : WorkList.owner g R.val = 0 ∨ WorkList.owner g R.val = 1 ∨ WorkList.owner g R.val = 2 ∨ WorkList.owner g R.val = 3 := by
    generalize WorkList.owner g R.val = o
    revert o; decide
  all_goals rw [h]; rfl

/-! ## The result array -/

variable (m : (ℓ : Loc nD τ sig) → Buf (Elt Ideal) ℓ)

abbrev argX (c : Dev nD) : Vec Ideal S65536x2816 .fp8e4m3 := m ((c.tc : Thread nD τ).loc main_arg0)
abbrev argXS (c : Dev nD) : Vec Ideal S65536x1 .f32 := m ((c.tc : Thread nD τ).loc main_arg1)
abbrev argG (c : Dev nD) : Vec Ideal S4 .i32 := m ((c.tc : Thread nD τ).loc main_arg2)
abbrev argW (c : Dev nD) : Vec Ideal S4x2816x5632 .fp8e4m3 := m ((c.tc : Thread nD τ).loc main_arg3)
abbrev argWS (c : Dev nD) : Vec Ideal S4x5632 .f32 := m ((c.tc : Thread nD τ).loc main_arg4)

/-- Every window is its whole array. -/
theorem iblk0 (c : Dev nD) (t : Fin cfg0.N) : iblk m c 0 t = argG m c := by
  funext y
  refine congrArg (argG m c) (funext fun a => Fin.ext ?_)
  exact Pipeline.Window.rect_emb_val_of_index_zero (cfg0.win 0) t a rfl y
theorem iblk1 (c : Dev nD) (t : Fin cfg0.N) : iblk m c 1 t = argX m c := by
  funext y
  refine congrArg (argX m c) (funext fun a => Fin.ext ?_)
  exact Pipeline.Window.rect_emb_val_of_index_zero (cfg0.win 1) t a rfl y
theorem iblk2 (c : Dev nD) (t : Fin cfg0.N) : iblk m c 2 t = argXS m c := by
  funext y
  refine congrArg (argXS m c) (funext fun a => Fin.ext ?_)
  exact Pipeline.Window.rect_emb_val_of_index_zero (cfg0.win 2) t a rfl y
theorem iblk3 (c : Dev nD) (t : Fin cfg0.N) : iblk m c 3 t = argW m c := by
  funext y
  refine congrArg (argW m c) (funext fun a => Fin.ext ?_)
  exact Pipeline.Window.rect_emb_val_of_index_zero (cfg0.win 3) t a rfl y
theorem iblk4 (c : Dev nD) (t : Fin cfg0.N) : iblk m c 4 t = argWS m c := by
  funext y
  refine congrArg (argWS m c) (funext fun a => Fin.ext ?_)
  exact Pipeline.Window.rect_emb_val_of_index_zero (cfg0.win 4) t a rfl y

/-- The body's output at an element, for the arguments whole. -/
theorem out_apply {g : ℕ → ℕ} (hsum : WorkList.hi g 3 = 65536) (c : Dev nD) (hs : ∀ e : Fin 4, argG m c (ix1 e) = BitVec.ofNat 32 (g e.val))
    (t : Fin cfg0.N) (R : Fin 65536) (n : Fin 5632) :
    outsAt0 (F := Ideal) m c t (ix2 R n) = layer g (argX m c) (argXS m c) (argW m c) (argWS m c) (ix2 R n) := by
  have inbw : ∀ (e : Fin 4) (a : Fin 3), (![e.val, 0, 0] : Fin 3 → ℕ) a + (![1, 2816, 5632] : Fin 3 → ℕ) a ≤ S4x2816x5632.size a := by decide
  have inba : ∀ (e : Fin 4) (a : Fin 2), (![e.val, 0] : Fin 2 → ℕ) a + (![1, 5632] : Fin 2 → ℕ) a ≤ S4x5632.size a := by decide
  unfold outsAt0
  rw [out_A, iblk0, iblk1, iblk2, iblk3, iblk4]
  refine (refBlock_apply hsum (fun e => argG m c (ix1 e)) hs (argX m c) (argXS m c)
    (fun e => View.ld (Val := Elt Ideal) (argW m c) (Rect.unit ![e.val, 0, 0] ![1, 2816, 5632] (inbw e)))
    (fun e => View.ld (Val := Elt Ideal) (argWS m c) (Rect.unit ![e.val, 0] ![1, 5632] (inba e))) R n).trans ?_
  show _ = scaledDot _ _ _ _ (WorkList.owner g R.val) R n
  generalize WorkList.owner g R.val = e
  have hw : ∀ k : Fin 2816, View.ld (Val := Elt Ideal) (S := S4x2816x5632) (e' := .fp8e4m3) (argW m c) (Rect.unit ![e.val, 0, 0] ![1, 2816, 5632] (inbw e)) (ix3 0 k n)
      = argW m c (ix3 e k n) := by
    intro k
    refine congrArg (argW m c) (funext fun a => Fin.ext ?_)
    refine (Rect.idx_unit_val (s := S4x2816x5632) ![e.val, 0, 0] ![1, 2816, 5632] (inbw e) (ix3 0 k n) a).trans ?_
    match a with
    | ⟨0, _⟩ => rfl
    | ⟨1, _⟩ => exact Nat.zero_add _
    | ⟨2, _⟩ => exact Nat.zero_add _
  have ha : View.ld (Val := Elt Ideal) (S := S4x5632) (e' := .f32) (argWS m c) (Rect.unit ![e.val, 0] ![1, 5632] (inba e)) (ix2 0 n) = argWS m c (ix2 e n) := by
    refine congrArg (argWS m c) (funext fun a => Fin.ext ?_)
    refine (Rect.idx_unit_val (s := S4x5632) ![e.val, 0] ![1, 5632] (inba e) (ix2 0 n) a).trans ?_
    match a with
    | ⟨0, _⟩ => rfl
    | ⟨1, _⟩ => exact Nat.zero_add _
  exact Ideal.mul_congr (Ideal.mul_congr (Finset.sum_congr rfl fun k _ => Ideal.mul_congr rfl (hw k)) rfl) ha

/-- The result array is the layer of the arguments. -/
theorem result_eq {g : ℕ → ℕ} (hsum : WorkList.hi g 3 = 65536) (c : Dev nD) (hs : ∀ e : Fin 4, argG m c (ix1 e) = BitVec.ofNat 32 (g e.val)) :
    (dats m 0 c).arrAt 5 cfg0.N = layer g (argX m c) (argXS m c) (argW m c) (argWS m c) := by
  refine (dats m 0 c).arrAt_eq_of_after_last 5 t0_0 (by decide +kernel) _ fun j => ?_
  blk_simp
  rw [after0_5]
  have hj : j = ix2 (j 0) (j 1) := by
    funext a
    match a with
    | ⟨0, _⟩ => rfl
    | ⟨1, _⟩ => rfl
  have h := out_apply m hsum c hs t0_0 (j 0) (j 1)
  exact (congrArg (outsAt0 m c t0_0) hj).trans (h.trans (congrArg (layer g (argX m c) (argXS m c) (argW m c) (argWS m c)) hj.symm))

end Cert.ReferenceIdeal.Hand

end
-- ==== Proof.Equal.lean ====
module

public import proofs.«01_k».proof.Defs
public import proofs.«01_k».proof.Proof.KernelValue
public import proofs.«01_k».proof.Proof.RefValue
public import proofs.«01_k».proof.Proof.Gen.KernelIdeal
public import proofs.«01_k».proof.Proof.Gen.ReferenceIdeal
public import proofs.«01_k».proof.Proof.Gen.Pre_partition

/-! # The kernel and the reference compute the same array

Both result arrays are `layer` of the arguments, so from equal arguments they are equal. -/

@[expose] public section

noncomputable section

namespace Cert.Proof

open Idealize.ShloMosaic Idealize.SL.Sem

/-- From equal arguments whose group sizes partition the rows, the two runs end with one result. -/
theorem algebraic : Cert.algebraic_KernelIdeal_ReferenceIdeal (hKernelIdeal := Cert.KernelIdeal.Gen.facts)
    (hReferenceIdeal := Cert.ReferenceIdeal.Gen.facts) (hPre_partition := Cert.Pre_partition.Gen.facts) := by
  intro m g m' g' h hargs
  have hp := Cert.KernelIdeal.Hand.parts_of_pre _ _ _ _ (h 0)
  refine ⟨fun c => Cert.KernelIdeal.Hand.resultArr m hp c, ?_, ?_⟩
  · exact (θ_run _ _ _).mono (fun r hr => hr.1) (Cert.KernelIdeal.Hand.run_ends m g hp (Cert.KernelIdeal.Hand.sizes_all m))
  · refine (θ_run _ _ _).mono (fun r hr c => ⟨(hr c).1.trans ?_, (hr c).2⟩) (Cert.ReferenceIdeal.Value.run_blocks m' g')
    obtain ⟨h0, h1, h2, h3, h4⟩ := hargs c
    have hs : ∀ e : Fin 4, Cert.ReferenceIdeal.Hand.argG m' c (ix1 e) = BitVec.ofNat 32
        (Cert.KernelIdeal.Hand.gN (m (((0 : Dev Cert.KernelIdeal.nD).tc : Thread Cert.KernelIdeal.nD Cert.KernelIdeal.τ).loc Cert.KernelIdeal.main_arg2)) e.val) := fun e =>
      (congrFun (h2.trans (Cert.KernelIdeal.Hand.sizes_all m c)) (ix1 e)).trans
        ((congrArg _ (ix1_eq_valueIdx e)).trans (Cert.KernelIdeal.Hand.gs_at e))
    refine (Cert.ReferenceIdeal.Hand.result_eq m' hp c hs).trans ?_
    refine Eq.trans ?_ (Cert.KernelIdeal.Hand.resultArr_eq m hp c).symm
    show layer _ _ _ _ _ = layer _ _ _ _ _
    congr 1

end Cert.Proof

end
-- ==== Proof.lean ====
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_partition

/-! # The claims, assembled -/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_partition.Gen.facts,
    frame_bits, frame_ideal, fun m ρ _ => Cert.ReferenceIdeal.Gen.frame m ρ, fun m ρ _ => Cert.ReferenceIdeal.Gen.frame m ρ,
    trivial, algebraic⟩

end Cert.Proof

end
